-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v3)) (v3 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_v4) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_v35) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S8192x4096 : Shape := ⟨2, ![8192, 4096]⟩
abbrev S4096x64 : Shape := ⟨2, ![4096, 64]⟩
abbrev S8192x64 : Shape := ⟨2, ![8192, 64]⟩
abbrev S8192x64x64 : Shape := ⟨3, ![8192, 64, 64]⟩
abbrev S_ : Shape := ⟨0, ![]⟩

class Facts : Prop where
  bcast_S8192x64_S8192x64x64_0_1 : S8192x64.BroadcastsInDim S8192x64x64 (![0, 1] : Fin 2 → Fin S8192x64x64.rank)
  bcast_S8192x64_S8192x64x64_0_2 : S8192x64.BroadcastsInDim S8192x64x64 (![0, 2] : Fin 2 → Fin S8192x64x64.rank)
  reducesTo_S8192x64x64_S8192x64_d2 : S8192x64x64.ReducesTo [2] S8192x64
  h_S_ : 0 < S_.numel
  bcast_S_S8192x64 : S_.BroadcastsInDim S8192x64 (![] : Fin 0 → Fin S8192x64.rank)
  bcast_S_S8192x64x64 : S_.BroadcastsInDim S8192x64x64 (![] : Fin 0 → Fin S8192x64x64.rank)
  dot_S8192x4096_S4096x64_S8192x64_1_0_0_1_n_n_wf : DotDims.WF S8192x4096 S4096x64 S8192x64 [1] [0] [0] [1] [] []

variable [Facts]

def dot_S8192x4096_S4096x64_S8192x64_1_0_0_1_n_n : DotDims S8192x4096 S4096x64 S8192x64 where
  lhsContracting := [1]
  rhsContracting := [0]
  lhsNonContracting := [0]
  rhsNonContracting := [1]
  lhsBatch := []
  rhsBatch := []
  wf := dot_S8192x4096_S4096x64_S8192x64_1_0_0_1_n_n_wf
def fn {F : FTy → Type} [FloatOps F] (main_arg0 : FVec F S8192x4096 .f32) (main_arg1 : FVec F S4096x64 .f32) (main_arg2 : FVec F S4096x64 .f32) : IVec S8192x64x64 1 :=
  let main_v0 : FVec F S8192x64 .f32 := (fun l r => Host.dotGeneral dot_S8192x4096_S4096x64_S8192x64_1_0_0_1_n_n none l r) main_arg0 main_arg1
  let main_v1 : FVec F S8192x64x64 .f32 := broadcastInDim S8192x64x64 ![0, 1] bcast_S8192x64_S8192x64x64_0_1 main_v0
  let main_v2 : FVec F S8192x64x64 .f32 := broadcastInDim S8192x64x64 ![0, 2] bcast_S8192x64_S8192x64x64_0_2 main_v0
  let main_v3 : IVec S8192x64x64 1 := cmpf .ogt main_v2 main_v1
  let main_v4 : FVec F S8192x64x64 .f32 := uitofp .f32 main_v3
  let main_cst : FVec F S_ .f32 := constant S_ .f32 0x00000000#32
  let main_v5 : FVec F S8192x64 .f32 := (fun x v => Host.reduceAdd x v reducesTo_S8192x64x64_S8192x64_d2 h_S_) main_v4 main_cst
  let main_cst_0 : FVec F S_ .f32 := constant S_ .f32 0x41000000#32
  let main_v6 : FVec F S8192x64 .f32 := broadcastInDim S8192x64 ![] bcast_S_S8192x64 main_cst_0
  let main_v7 : IVec S8192x64 1 := cmpf .oge main_v5 main_v6
  let main_v8 : IVec S8192x64x64 1 := broadcastInDim S8192x64x64 ![0, 1] bcast_S8192x64_S8192x64x64_0_1 main_v7
  let main_v9 : IVec S8192x64x64 32 := iotaInDim S8192x64x64 32 1
  let main_v10 : IVec S8192x64x64 32 := iotaInDim S8192x64x64 32 2
  let main_v11 : IVec S8192x64x64 1 := cmpi .eq main_v9 main_v10
  let main_cst_1 : FVec F S_ .f32 := constant S_ .f32 0x7F800000#32
  let main_v12 : FVec F S8192x64x64 .f32 := broadcastInDim S8192x64x64 ![] bcast_S_S8192x64x64 main_cst_1
  let main_v13 : IVec S8192x64x64 1 := cmpf .olt main_v1 main_v12
  let main_v14 : IVec S8192x64x64 1 := cmpf .une main_v1 main_v2
  let main_v15 : IVec S8192x64x64 1 := ori main_v11 main_v14
  let main_v16 : IVec S8192x64x64 1 := ori main_v15 main_v8
  let main_v17 : IVec S8192x64x64 1 := andi main_v13 main_v16
  main_v17
-- ==== Kernel.lean ====
abbrev S8192x4096 : Shape := ⟨2, ![8192, 4096]⟩
abbrev S4096x64 : Shape := ⟨2, ![4096, 64]⟩
abbrev S8192x64 : Shape := ⟨2, ![8192, 64]⟩
abbrev S8x8x64 : Shape := ⟨3, ![8, 8, 64]⟩
abbrev S512x4096 : Shape := ⟨2, ![512, 4096]⟩
abbrev S1024x64 : Shape := ⟨2, ![1024, 64]⟩
abbrev S1x8x64 : Shape := ⟨3, ![1, 8, 64]⟩
abbrev S64 : Shape := ⟨1, ![64]⟩
abbrev S512x64 : Shape := ⟨2, ![512, 64]⟩
abbrev S512 : Shape := ⟨1, ![512]⟩
abbrev S512x1 : Shape := ⟨2, ![512, 1]⟩
abbrev S1x512 : Shape := ⟨2, ![1, 512]⟩
abbrev S1 : Shape := ⟨1, ![1]⟩
abbrev S1x1 : Shape := ⟨2, ![1, 1]⟩
abbrev S8x64 : Shape := ⟨2, ![8, 64]⟩
abbrev S1x64 : Shape := ⟨2, ![1, 64]⟩
abbrev S1x1x64 : Shape := ⟨3, ![1, 1, 64]⟩
abbrev S1x1x1 : Shape := ⟨3, ![1, 1, 1]⟩
abbrev S_ : Shape := ⟨0, ![]⟩

abbrev nBuf : Space → Nat
  | .hbm => 11
  | .vmem => 12
  | .smem => 1
  | _ => 0

abbrev bufTy : (tb : Table) → Fin (tcTables nBuf tb) → BufTy
  | .hbm, ⟨0, _⟩ => ⟨S8192x4096, .f32⟩
  | .hbm, ⟨1, _⟩ => ⟨S4096x64, .f32⟩
  | .hbm, ⟨2, _⟩ => ⟨S4096x64, .f32⟩
  | .hbm, ⟨3, _⟩ => ⟨S8192x64, .f32⟩
  | .hbm, ⟨4, _⟩ => ⟨S8x8x64, .f32⟩
  | .hbm, ⟨5, _⟩ => ⟨S1x64, .f32⟩
  | .hbm, ⟨6, _⟩ => ⟨S1x64, .f32⟩
  | .hbm, ⟨7, _⟩ => ⟨S1x1, .f32⟩
  | .hbm, ⟨8, _⟩ => ⟨S_, .f32⟩
  | .hbm, ⟨9, _⟩ => ⟨S64, .f32⟩
  | .hbm, ⟨10, _⟩ => ⟨S64, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | .local _ .vmem, ⟨4, _⟩ => ⟨S4096x64, .f32⟩
  | .local _ .vmem, ⟨5, _⟩ => ⟨S1024x64, .f32⟩
  | .local _ .vmem, ⟨6, _⟩ => ⟨S1024x64, .f32⟩
  | .local _ .vmem, ⟨7, _⟩ => ⟨S1x8x64, .f32⟩
  | .local _ .vmem, ⟨8, _⟩ => ⟨S1x8x64, .f32⟩
  | .local _ .vmem, ⟨9, _⟩ => ⟨S8x8x64, .f32⟩
  | .local _ .vmem, ⟨10, _⟩ => ⟨S1x64, .f32⟩
  | .local _ .vmem, ⟨11, _⟩ => ⟨S1x64, .f32⟩
  | .local _ .smem, ⟨0, _⟩ => ⟨S1x1, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem1_0 : DmaSem sig := 10
abbrev cc1_sem2_0 : DmaSem sig := 11
abbrev cc1_sem3_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := .none

abbrev stage1_0 : Fin 1 → Memref sig .tc .vmem S8x8x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .smem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
-- ==== ReferenceIdeal.lean ====
abbrev S8192x4096 : Shape := ⟨2, ![8192, 4096]⟩
abbrev S4096x64 : Shape := ⟨2, ![4096, 64]⟩
abbrev S8192x64 : Shape := ⟨2, ![8192, 64]⟩
abbrev S8192x9 : Shape := ⟨2, ![8192, 9]⟩
abbrev S8192x8 : Shape := ⟨2, ![8192, 8]⟩
abbrev S_ : Shape := ⟨0, ![]⟩
abbrev S8192 : Shape := ⟨1, ![8192]⟩
abbrev S8192x1 : Shape := ⟨2, ![8192, 1]⟩
abbrev S8192x8x1 : Shape := ⟨3, ![8192, 8, 1]⟩
abbrev S8192x8x2 : Shape := ⟨3, ![8192, 8, 2]⟩
abbrev S64 : Shape := ⟨1, ![64]⟩
abbrev S1 : Shape := ⟨1, ![1]⟩

abbrev nBuf : Space → Nat
  | .hbm => 128
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x64, .f32⟩
  | .hbm, ⟨2, _⟩ => ⟨S4096x64, .f32⟩
  | .hbm, ⟨3, _⟩ => ⟨S8192x64, .f32⟩
  | .hbm, ⟨4, _⟩ => ⟨S8192x9, .f32⟩
  | .hbm, ⟨5, _⟩ => ⟨S8192x9, .i32⟩
  | .hbm, ⟨6, _⟩ => ⟨S8192x8, .f32⟩
  | .hbm, ⟨7, _⟩ => ⟨S8192x8, .i32⟩
  | .hbm, ⟨8, _⟩ => ⟨S_, .f32⟩
  | .hbm, ⟨9, _⟩ => ⟨S8192, .f32⟩
  | .hbm, ⟨10, _⟩ => ⟨S_, .f32⟩
  | .hbm, ⟨11, _⟩ => ⟨S8192, .f32⟩
  | .hbm, ⟨12, _⟩ => ⟨S8192, .f32⟩
  | .hbm, ⟨13, _⟩ => ⟨S8192x1, .f32⟩
  | .hbm, ⟨14, _⟩ => ⟨S8192x8, .f32⟩
  | .hbm, ⟨15, _⟩ => ⟨S8192x8, .f32⟩
  | .hbm, ⟨16, _⟩ => ⟨S8192x8, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S8192x8, .f32⟩
  | .hbm, ⟨21, _⟩ => ⟨S8192x8, .f32⟩
  | .hbm, ⟨22, _⟩ => ⟨S8192, .i32⟩
  | .hbm, ⟨23, _⟩ => ⟨S8192x1, .i32⟩
  | .hbm, ⟨24, _⟩ => ⟨S_, .f32⟩
  | .hbm, ⟨25, _⟩ => ⟨S8192x64, .f32⟩
  | .hbm, ⟨26, _⟩ => ⟨S_, .i32⟩
  | .hbm, ⟨27, _⟩ => ⟨S8192x1, .i32⟩
  | .hbm, ⟨28, _⟩ => ⟨S8192x1, .i1⟩
  | .hbm, ⟨29, _⟩ => ⟨S_, .i32⟩
  | .hbm, ⟨30, _⟩ => ⟨S8192x1, .i32⟩
  | .hbm, ⟨31, _⟩ => ⟨S8192x1, .i32⟩
  | .hbm, ⟨32, _⟩ => ⟨S8192x1, .i32⟩
  | .hbm, ⟨33, _⟩ => ⟨S_, .i32⟩
  | .hbm, ⟨34, _⟩ => ⟨S8192x8, .i32⟩
  | .hbm, ⟨35, _⟩ => ⟨S8192x8, .i1⟩
  | .hbm, ⟨36, _⟩ => ⟨S_, .i32⟩
  | .hbm, ⟨37, _⟩ => ⟨S8192x8, .i32⟩
  | .hbm, ⟨38, _⟩ => ⟨S8192x8, .i32⟩
  | .hbm, ⟨39, _⟩ => ⟨S8192x8, .i32⟩
  | .hbm, ⟨40, _⟩ => ⟨S8192x8, .i32⟩
  | .hbm, ⟨41, _⟩ => ⟨S8192x8x1, .i32⟩
  | .hbm, ⟨42, _⟩ => ⟨S8192x8x1, .i32⟩
  | .hbm, ⟨43, _⟩ => ⟨S8192x8x2, .i32⟩
  | .hbm, ⟨44, _⟩ => ⟨S8192x64, .f32⟩
  | .hbm, ⟨45, _⟩ => ⟨S_, .f32⟩
  | .hbm, ⟨46, _⟩ => ⟨S8192x64, .f32⟩
  | .hbm, ⟨47, _⟩ => ⟨S8192x64, .i1⟩
  | .hbm, ⟨48, _⟩ => ⟨S8192x64, .f32⟩
  | .hbm, ⟨49, _⟩ => ⟨S_, .f32⟩
  | .hbm, ⟨50, _⟩ => ⟨S64, .f32⟩
  | .hbm, ⟨51, _⟩ => ⟨S_, .f32⟩
  | .hbm, ⟨52, _⟩ => ⟨S64, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .i32⟩
  | .hbm, ⟨58, _⟩ => ⟨S_, .f32⟩
  | .hbm, ⟨59, _⟩ => ⟨S_, .f32⟩
  | .hbm, ⟨60, _⟩ => ⟨S1, .f32⟩
  | .hbm, ⟨61, _⟩ => ⟨S_, .f32⟩
  | .hbm, ⟨62, _⟩ => ⟨S1, .f32⟩
  | .hbm, ⟨63, _⟩ => ⟨S1, .f32⟩
  | .hbm, ⟨64, _⟩ => ⟨S64, .f32⟩
  | .hbm, ⟨65, _⟩ => ⟨S64, .f32⟩
  | .hbm, ⟨66, _⟩ => ⟨S64, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .i1⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .i32⟩
  | .hbm, ⟨87, _⟩ => ⟨S_, .f32⟩
  | .hbm, ⟨88, _⟩ => ⟨S_, .f32⟩
  | .hbm, ⟨89, _⟩ => ⟨S1, .f32⟩
  | .hbm, ⟨90, _⟩ => ⟨S_, .f32⟩
  | .hbm, ⟨91, _⟩ => ⟨S1, .f32⟩
  | .hbm, ⟨92, _⟩ => ⟨S1, .f32⟩
  | .hbm, ⟨93, _⟩ => ⟨S64, .f32⟩
  | .hbm, ⟨94, _⟩ => ⟨S64, .f32⟩
  | .hbm, ⟨95, _⟩ => ⟨S64, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .i1⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S8192, .f32⟩
  | .hbm, ⟨114, _⟩ => ⟨S8192x1, .f32⟩
  | .hbm, ⟨115, _⟩ => ⟨S8192x64, .f32⟩
  | .hbm, ⟨116, _⟩ => ⟨S8192x64, .f32⟩
  | .hbm, ⟨117, _⟩ => ⟨S8192x64, .f32⟩
  | .hbm, ⟨118, _⟩ => ⟨S_, .f32⟩
  | .hbm, ⟨119, _⟩ => ⟨S8192, .f32⟩
  | .hbm, ⟨120, _⟩ => ⟨S8192, .f32⟩
  | .hbm, ⟨121, _⟩ => ⟨S8192, .f32⟩
  | .hbm, ⟨122, _⟩ => ⟨S8192, .f32⟩
  | .hbm, ⟨123, _⟩ => ⟨S_, .f32⟩
  | .hbm, ⟨124, _⟩ => ⟨S_, .f32⟩
  | .hbm, ⟨125, _⟩ => ⟨S_, .f32⟩
  | .hbm, ⟨126, _⟩ => ⟨S_, .f32⟩
  | .hbm, ⟨127, _⟩ => ⟨S_, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_values : Ref sig .tc := ⟨.hbm, 4, rfl⟩
abbrev main_indices : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_c : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_c_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_cst_10 : Ref sig .tc := ⟨.hbm, 55, rfl⟩
abbrev main_v38 : Ref sig .tc := ⟨.hbm, 56, rfl⟩
abbrev main_c_11 : Ref sig .tc := ⟨.hbm, 57, rfl⟩
abbrev main_call0_cst : Ref sig .tc := ⟨.hbm, 58, rfl⟩
abbrev main_call0_v0 : Ref sig .tc := ⟨.hbm, 59, rfl⟩
abbrev main_call0_v1 : Ref sig .tc := ⟨.hbm, 60, rfl⟩
abbrev main_call0_cst_0 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_call0_v5 : Ref sig .tc := ⟨.hbm, 65, rfl⟩
abbrev main_call0_v6 : Ref sig .tc := ⟨.hbm, 66, rfl⟩
abbrev main_call0_v7 : Ref sig .tc := ⟨.hbm, 67, rfl⟩
abbrev main_call0_cst_1 : Ref sig .tc := ⟨.hbm, 68, rfl⟩
abbrev main_call0_v8 : Ref sig .tc := ⟨.hbm, 69, rfl⟩
abbrev main_call0_cst_2 : Ref sig .tc := ⟨.hbm, 70, rfl⟩
abbrev main_call0_v9 : Ref sig .tc := ⟨.hbm, 71, rfl⟩
abbrev main_call0_v10 : Ref sig .tc := ⟨.hbm, 72, rfl⟩
abbrev main_call0_cst_3 : Ref sig .tc := ⟨.hbm, 73, rfl⟩
abbrev main_call0_v11 : Ref sig .tc := ⟨.hbm, 74, rfl⟩
abbrev main_call0_cst_4 : Ref sig .tc := ⟨.hbm, 75, rfl⟩
abbrev main_call0_call0_v0 : Ref sig .tc := ⟨.hbm, 76, rfl⟩
abbrev main_v39 : Ref sig .tc := ⟨.hbm, 77, rfl⟩
abbrev main_v40 : Ref sig .tc := ⟨.hbm, 78, rfl⟩
abbrev main_cst_12 : Ref sig .tc := ⟨.hbm, 79, rfl⟩
abbrev main_v41 : Ref sig .tc := ⟨.hbm, 80, rfl⟩
abbrev main_v42 : Ref sig .tc := ⟨.hbm, 81, rfl⟩
abbrev main_cst_13 : Ref sig .tc := ⟨.hbm, 82, rfl⟩
abbrev main_v43 : Ref sig .tc := ⟨.hbm, 83, rfl⟩
abbrev main_cst_14 : Ref sig .tc := ⟨.hbm, 84, rfl⟩
abbrev main_v44 : Ref sig .tc := ⟨.hbm, 85, rfl⟩
abbrev main_c_15 : Ref sig .tc := ⟨.hbm, 86, rfl⟩
abbrev main_call1_cst : Ref sig .tc := ⟨.hbm, 87, rfl⟩
abbrev main_call1_v0 : Ref sig .tc := ⟨.hbm, 88, rfl⟩
abbrev main_call1_v1 : Ref sig .tc := ⟨.hbm, 89, rfl⟩
abbrev main_call1_cst_0 : Ref sig .tc := ⟨.hbm, 90, rfl⟩
abbrev main_call1_v2 : Ref sig .tc := ⟨.hbm, 91, rfl⟩
abbrev main_call1_v3 : Ref sig .tc := ⟨.hbm, 92, rfl⟩
abbrev main_call1_v4 : Ref sig .tc := ⟨.hbm, 93, rfl⟩
abbrev main_call1_v5 : Ref sig .tc := ⟨.hbm, 94, rfl⟩
abbrev main_call1_v6 : Ref sig .tc := ⟨.hbm, 95, rfl⟩
abbrev main_call1_v7 : Ref sig .tc := ⟨.hbm, 96, rfl⟩
abbrev main_call1_cst_1 : Ref sig .tc := ⟨.hbm, 97, rfl⟩
abbrev main_call1_v8 : Ref sig .tc := ⟨.hbm, 98, rfl⟩
abbrev main_call1_cst_2 : Ref sig .tc := ⟨.hbm, 99, rfl⟩
abbrev main_call1_v9 : Ref sig .tc := ⟨.hbm, 100, rfl⟩
abbrev main_call1_v10 : Ref sig .tc := ⟨.hbm, 101, rfl⟩
abbrev main_call1_cst_3 : Ref sig .tc := ⟨.hbm, 102, rfl⟩
abbrev main_call1_v11 : Ref sig .tc := ⟨.hbm, 103, rfl⟩
abbrev main_call1_cst_4 : Ref sig .tc := ⟨.hbm, 104, rfl⟩
abbrev main_call1_call0_v0 : Ref sig .tc := ⟨.hbm, 105, rfl⟩
abbrev main_v45 : Ref sig .tc := ⟨.hbm, 106, rfl⟩
abbrev main_v46 : Ref sig .tc := ⟨.hbm, 107, rfl⟩
abbrev main_cst_16 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_cst_17 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_cst_18 : Ref sig .tc := ⟨.hbm, 118, rfl⟩
abbrev main_v55 : Ref sig .tc := ⟨.hbm, 119, rfl⟩
abbrev main_v56 : Ref sig .tc := ⟨.hbm, 120, rfl⟩
abbrev main_v57 : Ref sig .tc := ⟨.hbm, 121, rfl⟩
abbrev main_v58 : Ref sig .tc := ⟨.hbm, 122, rfl⟩
abbrev main_cst_19 : Ref sig .tc := ⟨.hbm, 123, rfl⟩
abbrev main_v59 : Ref sig .tc := ⟨.hbm, 124, rfl⟩
abbrev main_cst_20 : Ref sig .tc := ⟨.hbm, 125, rfl⟩
abbrev main_v60 : Ref sig .tc := ⟨.hbm, 126, rfl⟩
abbrev main_v61 : Ref sig .tc := ⟨.hbm, 127, rfl⟩

abbrev nD : Nat := 1
abbrev τ : Topo := Topo.v7x

variable {F : FTy → Type} [FloatOps F]
-- ==== Proof.Frames.lean ====
/- The frames of the three programs: each runs, leaves its argument arrays as they were and ends with every
   semaphore counter at zero. The two kernels' are read off the generated launch, the reference's off its run. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The kernel at the machine's number formats leaves its arguments unchanged, counters at zero. -/
theorem frame_kernel : Cert.quiescent_Kernel (hKernel := Cert.Kernel.Gen.facts) :=
  fun m ρ _ => Cert.Kernel.Gen.frame m ρ

/-- The kernel over the extended reals leaves its arguments unchanged, counters at zero. -/
theorem frame_kernelIdeal : Cert.quiescent_KernelIdeal (hKernelIdeal := Cert.KernelIdeal.Gen.facts) :=
  fun m ρ _ => Cert.KernelIdeal.Gen.frame m ρ

/-- The reference over the extended reals leaves its arguments unchanged; it has no semaphores. -/
theorem frame_referenceIdeal : Cert.quiescent_ReferenceIdeal (hReferenceIdeal := Cert.ReferenceIdeal.Gen.facts) :=
  fun m ρ _ => (θ_run Cert.ReferenceIdeal.defs _ _).mono
    (fun r h => ⟨fun c => (h c).2.2.2.2, Idealize.ShloMosaic.sem_eq_zero_of_no_sems (by decide) r.2⟩)
    (Cert.ReferenceIdeal.Value.run m ρ)

end Cert.Proof

end
-- ==== Proof.Row.lean ====
module

public import Idealize.ShloMosaic.Lib.Pointwise
public import Idealize.ShloMosaic.Lib.SortFacts

@[expose] public section

noncomputable section

/-! One row of scores, as mathematics: the eight largest entries, how seven rounds of "strike out the maximum" find the
eighth largest, and the softmax over the eight. Nothing here mentions the two programs. -/

namespace Cert.Proof.Row

open Idealize.ShloMosaic Finset

/-- The number of entries strictly above entry `j`. -/
def above (l : Fin 64 → EReal) (j : Fin 64) : ℕ := (univ.filter fun i => l j < l i).card

/-- Entry `j` is one of the eight largest. -/
def Top (l : Fin 64 → EReal) (j : Fin 64) : Prop := above l j < 8

instance (l : Fin 64 → EReal) (j : Fin 64) : Decidable (Top l j) := inferInstanceAs (Decidable (_ < _))

/-- What the precondition says of a row: no entry is `+∞`, and two entries that tie have eight entries above them. -/
structure Sep (l : Fin 64 → EReal) : Prop where
  lt_top : ∀ j, l j < ⊤
  apart : ∀ j k, j ≠ k → l j ≠ l k ∨ 8 ≤ above l j

/-- `σ` lists the entries in descending order. -/
structure Desc (l : Fin 64 → EReal) (σ : Fin 64 → Fin 64) : Prop where
  bij : Function.Bijective σ
  anti : ∀ i j, i < j → l (σ j) ≤ l (σ i)

/-- Sorting the positions by "strictly larger first" is a descending listing. -/
theorem desc_sorted (l : Fin 64 → EReal) (R : Fin 64 → Fin 64 → Bool) (hR : ∀ a b, R a b = true ↔ l b < l a) :
    Desc l (sortedFrom R) := by
  have hf : ∀ a b, R a b = false ↔ l a ≤ l b := fun a b => by
    rw [← not_lt, ← hR, Bool.not_eq_true]
  refine ⟨⟨sortedFrom_injective R, sortedFrom_surjective R⟩, fun i j h => ?_⟩
  exact (hf _ _).1 (sortedFrom_noInversion R R (fun a b h => (hf _ _).2 ((hR _ _).1 h).le) (fun _ _ h => h)
    (fun a b c h h' => (hf _ _).2 (((hf _ _).1 h).trans ((hf _ _).1 h'))) i j h)

/-- Every row has a descending listing. -/
theorem exists_desc (l : Fin 64 → EReal) : ∃ σ, Desc l σ :=
  ⟨_, desc_sorted l (fun a b => decide (l b < l a)) fun _ _ => decide_eq_true_iff⟩

section
variable {l : Fin 64 → EReal} {σ : Fin 64 → Fin 64}

/-- At most `r` entries lie above the `r`-th listed one. -/
theorem above_le (hd : Desc l σ) (r : Fin 64) : above l (σ r) ≤ r := by
  have : (univ.filter fun i => l (σ r) < l i) ⊆ (Iio r).image σ := by
    intro i hi
    obtain ⟨s, rfl⟩ := hd.bij.2 i
    simp only [mem_filter, mem_univ, true_and] at hi
    refine mem_image_of_mem σ (mem_Iio.2 ?_)
    by_contra h
    rcases lt_or_eq_of_le (not_lt.1 h) with h | h
    · exact absurd hi (not_lt.2 (hd.anti r s h))
    · exact absurd hi (by rw [h]; exact lt_irrefl _)
  refine (card_le_card this).trans (card_image_le.trans ?_)
  simp

/-- The first eight listed entries are strictly above everything listed after them. -/
theorem strict (hs : Sep l) (hd : Desc l σ) {r s : Fin 64} (hr : r.1 < 8) (h : r < s) : l (σ s) < l (σ r) := by
  refine lt_of_le_of_ne (hd.anti r s h) fun e => ?_
  rcases hs.apart (σ r) (σ s) (fun e => h.ne (hd.bij.1 e)) with h' | h'
  · exact h' e.symm
  · exact absurd (above_le hd r) (by omega)

/-- The eight largest entries are the first eight listed. -/
theorem top_iff (hs : Sep l) (hd : Desc l σ) (r : Fin 64) : Top l (σ r) ↔ r.1 < 8 := by
  constructor
  · intro ht
    by_contra hr
    have : (Iio (8 : Fin 64)).image σ ⊆ univ.filter fun i => l (σ r) < l i := by
      intro i hi
      obtain ⟨s, h, rfl⟩ := mem_image.1 hi
      have h8 : s.1 < 8 := Fin.lt_def.1 (mem_Iio.1 h)
      simp only [mem_filter, mem_univ, true_and]
      exact strict hs hd h8 (Fin.lt_def.2 (by omega))
    have h := card_le_card this
    rw [card_image_of_injective _ hd.bij.1, Fin.card_Iio] at h
    exact absurd ht (not_lt.2 h)
  · exact fun h => (above_le hd r).trans_lt h

/-- One round: strike out (to `-∞`) the entries equal to the maximum. -/
def strike (w : Fin 64 → EReal) : Fin 64 → EReal := fun j => if w j = univ.sup w then ⊥ else w j

/-- A row whose first `r` listed entries are struck out has the `r`-th listed entry as its maximum. -/
theorem sup_struck (hd : Desc l σ) (r : Fin 64) {w : Fin 64 → EReal}
    (hw : ∀ s, w (σ s) = if s < r then ⊥ else l (σ s)) : univ.sup w = l (σ r) := by
  apply le_antisymm
  · refine Finset.sup_le fun i _ => ?_
    obtain ⟨s, rfl⟩ := hd.bij.2 i
    rw [hw]
    split
    · exact bot_le
    · next h =>
      rcases lt_or_eq_of_le (not_lt.1 h) with h | h
      · exact hd.anti r s h
      · rw [h]
  · have := Finset.le_sup (f := w) (mem_univ (σ r))
    rwa [hw, if_neg (lt_irrefl r)] at this

/-- After `r ≤ 7` rounds the first `r` listed entries are struck out. -/
theorem strike_iter (hs : Sep l) (hd : Desc l σ) : ∀ r : ℕ, r < 8 → ∀ s : Fin 64,
    (strike^[r] l) (σ s) = if s.1 < r then ⊥ else l (σ s)
  | 0, _, s => by simp
  | r + 1, hr, s => by
    have ih := strike_iter hs hd r (by omega)
    have hsup := sup_struck hd ⟨r, by omega⟩ (w := strike^[r] l) ih
    rw [Function.iterate_succ_apply']
    change (if strike^[r] l (σ s) = univ.sup (strike^[r] l) then ⊥ else strike^[r] l (σ s)) = _
    rw [hsup, ih s]
    rcases lt_trichotomy s.1 r with h | h | h
    · rw [if_pos h, if_pos (by omega : s.1 < r + 1), ite_self]
    · have e : s = ⟨r, by omega⟩ := Fin.ext h
      rw [if_neg (by omega : ¬ s.1 < r), if_pos (by omega : s.1 < r + 1), if_pos (by rw [e])]
    · rw [if_neg (by omega : ¬ s.1 < r), if_neg (by omega : ¬ s.1 < r + 1), if_neg]
      exact (strict hs hd (r := ⟨r, by omega⟩) (Nat.lt_of_succ_lt hr) (Fin.lt_def.2 h)).ne

/-- The threshold the rounds arrive at is the eighth listed entry. -/
theorem sup_strike7 (hs : Sep l) (hd : Desc l σ) : univ.sup (strike^[7] l) = l (σ 7) :=
  sup_struck hd 7 fun s => by
    rw [strike_iter hs hd 7 (by omega)]
    rfl

/-- The maximum is the first listed entry. -/
theorem sup_eq (hd : Desc l σ) : univ.sup l = l (σ 0) :=
  sup_struck hd 0 fun s => by rw [if_neg (Fin.not_lt_zero s)]

end

/-- The entries at or above the threshold are the eight largest. -/
theorem threshold (l : Fin 64 → EReal) (hs : Sep l) (j : Fin 64) : univ.sup (strike^[7] l) ≤ l j ↔ Top l j := by
  obtain ⟨σ, hd⟩ := exists_desc l
  obtain ⟨s, rfl⟩ := hd.bij.2 j
  rw [sup_strike7 hs hd, top_iff hs hd]
  constructor
  · intro h
    by_contra h8
    exact absurd h (not_le.2 (strict hs hd (r := 7) (by decide) (Fin.lt_def.2 (by simpa using (by omega : 7 < s.1)))))
  · intro h
    rcases eq_or_ne s 7 with rfl | h7
    · exact le_rfl
    · exact hd.anti s 7 (Fin.lt_def.2 (by
        have : s.1 ≠ 7 := fun e => h7 (Fin.ext e)
        simpa using (by omega : s.1 < 7)))

/-- The weight of entry `j` before normalising: `exp` of its distance below the maximum. -/
def weight (l : Fin 64 → EReal) (j : Fin 64) : EReal := Ideal.exp (l j - univ.sup l)

/-- The weights of the eight largest entries, zero elsewhere. -/
def kept (l : Fin 64 → EReal) (j : Fin 64) : EReal := if Top l j then weight l j else 0

/-- The total weight of the eight largest entries. -/
def total (l : Fin 64 → EReal) : EReal := ∑ j, kept l j

/-- The gate: the normalised weight of the eight largest entries, zero elsewhere. -/
def gate (l : Fin 64 → EReal) (j : Fin 64) : EReal := Ideal.div (kept l j) (total l)

/-- One of the eight largest entries is a real number, so its weight is a positive real. -/
theorem weight_pos (l : Fin 64 → EReal) (hs : Sep l) (j : Fin 64) (ht : Top l j) : ∃ r : ℝ, 0 < r ∧ weight l j = r := by
  obtain ⟨σ, hd⟩ := exists_desc l
  have real : ∀ r : Fin 64, r.1 < 8 → ∃ a : ℝ, l (σ r) = a := fun r hr => by
    have h1 := strict hs hd hr (s := 8) (Fin.lt_def.2 hr)
    have h2 := hs.lt_top (σ r)
    exact ⟨(l (σ r)).toReal, (EReal.coe_toReal h2.ne (bot_le.trans_lt h1).ne').symm⟩
  obtain ⟨s, rfl⟩ := hd.bij.2 j
  obtain ⟨a, ha⟩ := real s ((top_iff hs hd s).1 ht)
  obtain ⟨b, hb⟩ := real 0 (by decide)
  refine ⟨Real.exp (a - b), Real.exp_pos _, ?_⟩
  unfold weight
  rw [sup_eq hd, ha, hb, ← EReal.coe_sub]
  rfl

/-- There is a largest entry. -/
theorem exists_top (l : Fin 64 → EReal) : ∃ j, Top l j := by
  obtain ⟨σ, hd⟩ := exists_desc l
  exact ⟨σ 0, (above_le hd 0).trans_lt (by decide)⟩

/-- A sum of reals, taken in the extended reals. -/
theorem coe_sum {α : Type} (s : Finset α) (f : α → ℝ) : ((∑ i ∈ s, f i : ℝ) : EReal) = ∑ i ∈ s, (f i : EReal) :=
  map_sum (⟨⟨fun r : ℝ => (r : EReal), rfl⟩, EReal.coe_add⟩ : ℝ →+ EReal) f s

/-- The total weight is a positive real. -/
theorem total_pos (l : Fin 64 → EReal) (hs : Sep l) : ∃ r : ℝ, 0 < r ∧ total l = r := by
  have hk : ∀ j, ∃ r : ℝ, 0 ≤ r ∧ (Top l j → 0 < r) ∧ kept l j = r := fun j => by
    unfold kept
    split
    · next h => obtain ⟨r, h0, e⟩ := weight_pos l hs j h; exact ⟨r, h0.le, fun _ => h0, e⟩
    · next h => exact ⟨0, le_rfl, fun h' => absurd h' h, rfl⟩
  choose f h0 h1 h2 using hk
  obtain ⟨j, hj⟩ := exists_top l
  refine ⟨∑ j, f j, Finset.sum_pos' (fun i _ => h0 i) ⟨j, mem_univ j, h1 j hj⟩, ?_⟩
  unfold total
  rw [coe_sum]
  exact sum_congr rfl fun i _ => h2 i

/-- Outside the eight largest entries the gate is zero. -/
theorem gate_of_not_top (l : Fin 64 → EReal) (hs : Sep l) (j : Fin 64) (h : ¬ Top l j) : gate l j = 0 := by
  obtain ⟨r, h0, e⟩ := total_pos l hs
  unfold gate kept Ideal.div
  rw [if_neg h, e, if_neg (EReal.coe_ne_zero.2 h0.ne'), zero_mul]

/-- At the eight largest entries the gate is the softmax. -/
theorem gate_of_top (l : Fin 64 → EReal) (j : Fin 64) (h : Top l j) : gate l j = Ideal.div (weight l j) (total l) := by
  unfold gate kept
  rw [if_pos h]

/-- The gate is positive exactly at the eight largest entries. -/
theorem gate_pos_iff (l : Fin 64 → EReal) (hs : Sep l) (j : Fin 64) : 0 < gate l j ↔ Top l j := by
  constructor
  · intro h
    by_contra ht
    rw [gate_of_not_top l hs j ht] at h
    exact lt_irrefl _ h
  · intro h
    obtain ⟨a, ha, e⟩ := weight_pos l hs j h
    obtain ⟨r, hr, e'⟩ := total_pos l hs
    rw [gate_of_top l j h, e, e']
    unfold Ideal.div
    rw [if_neg (EReal.coe_ne_zero.2 hr.ne'), ← EReal.coe_inv, ← EReal.coe_mul]
    exact EReal.coe_pos.2 (mul_pos ha (inv_pos.2 hr))

/-- The total weight, summed over the first eight entries of a descending listing. -/
theorem total_eq (l : Fin 64 → EReal) (hs : Sep l) (σ : Fin 64 → Fin 64) (hd : Desc l σ) :
    total l = ∑ r : Fin 8, weight l (σ (Fin.castLE (by decide) r)) := by
  unfold total
  rw [← hd.bij.sum_comp (kept l)]
  have split : ∀ f : Fin 64 → EReal, ∑ s, f s = ∑ r : Fin 8, f (Fin.castLE (by decide) r) + ∑ r : Fin 56, f (Fin.natAdd 8 r) :=
    fun f => Fin.sum_univ_add (a := 8) (b := 56) f
  rw [split, Finset.sum_eq_zero (s := (univ : Finset (Fin 56))), add_zero]
  · refine sum_congr rfl fun r _ => ?_
    unfold kept
    rw [if_pos ((top_iff hs hd _).2 r.2)]
  · intro r _
    unfold kept
    rw [if_neg]
    rw [top_iff hs hd]
    simp

/-- The maximum of the first eight entries of a descending listing is the maximum of the row. -/
theorem sup_first (l : Fin 64 → EReal) (σ : Fin 64 → Fin 64) (hd : Desc l σ) :
    (univ : Finset (Fin 8)).sup (fun r => l (σ (Fin.castLE (by decide) r))) = univ.sup l := by
  apply le_antisymm
  · exact Finset.sup_le fun r _ => Finset.le_sup (mem_univ _)
  · rw [sup_eq hd]
    exact Finset.le_sup (f := fun r : Fin 8 => l (σ (Fin.castLE (by decide) r))) (mem_univ 0)

/-- One for the eight largest entries, zero elsewhere. -/
def hit (l : Fin 64 → EReal) (j : Fin 64) : EReal := if Top l j then 1 else 0

/-- The logarithm of the sum of exponentials of a row, taken relative to its maximum. -/
def lse (l : Fin 64 → EReal) : EReal := Ideal.log (∑ j, weight l j) + univ.sup l

end Cert.Proof.Row

end
-- ==== Proof.KernelBlock.lean ====
module

public import proofs.«01_k».proof.Proof.Gen.KernelIdeal.Frame
public import proofs.«01_k».proof.Proof.Row
public import Idealize.ShloMosaic.Lib.Pipeline.ValueKit.Geometry

@[expose] public section

set_option maxRecDepth 16384

noncomputable section

/-! What the first launch computes for one block of 512 rows, read row by row. -/

namespace Cert.Proof.KernelBlock

open Idealize.ShloMosaic Cert.KernelIdeal Cert.KernelIdeal.Gen Cert.Proof.Row Finset

/-- The scores of one row of a block. -/
def blockRow (w : Vec Ideal S4096x64 .f32) (x : Vec Ideal S512x4096 .f32) (r : Fin 512) : Fin 64 → EReal :=
  fun j => ∑ k : Fin 4096, x (ix2 r k) * w (ix2 k j)

/-- A row of a block of scores. -/
def rowOf (v : FVec Ideal S512x64 .f32) (r : Fin 512) : Fin 64 → EReal := fun j => v (ix2 r j)

/-- The constant word for `-∞`. -/
theorem negInf : Ideal.ofBits .f32 0xFF800000#32 = (⊥ : EReal) := by
  simp [Ideal.ofBits, Ideal.ieee]

/-- The row-wise maximum of a block, spread back over the row. -/
def maxB (v : FVec Ideal S512x64 .f32) : FVec Ideal S512x64 .f32 :=
  broadcastTo S512x64 (shapeCast S512x1 (multiReduction .maximumf [1] S512 v 0xFF800000#32 reduces_S512x64_S512 (.inl rfl) rfl)
    shapeCasts_S512_S512x1) broadcasts_S512x1_S512x64

/-- The maximum over a row is the supremum of the row. -/
theorem maxB_apply (v : FVec Ideal S512x64 .f32) (r : Fin 512) (j : Fin 64) : maxB v (ix2 r j) = univ.sup (rowOf v r) := by
  unfold maxB
  pointwise
  rw [negInf]
  rfl

/-- One round of striking out the row maxima, on a block. -/
def strikeB (v : FVec Ideal S512x64 .f32) : FVec Ideal S512x64 .f32 :=
  select (cmpf .oeq v (maxB v)) (broadcast S512x64 (Scalar.ofBits .f32 0xFF800000#32)) v

theorem strikeB_row (v : FVec Ideal S512x64 .f32) (r : Fin 512) : rowOf (strikeB v) r = strike (rowOf v r) := by
  funext j
  change strikeB v (ix2 r j) = _
  unfold strikeB strike
  pointwise [maxB_apply]
  rw [negInf]
  rfl

/-- The scores of a block. -/
theorem pay4_row (w : Vec Ideal S4096x64 .f32) (x : Vec Ideal S512x4096 .f32) (r : Fin 512) :
    rowOf (k0_pay4 w x) r = blockRow w x r := by
  funext j
  unfold rowOf blockRow k0_pay4
  pointwise

/-- The spelled-out row maximum, recognised. -/
theorem maxB_fold (v : FVec Ideal S512x64 .f32) :
    broadcastTo S512x64 (shapeCast S512x1 (multiReduction .maximumf [1] S512 v 0xFF800000#32 reduces_S512x64_S512 (.inl rfl) rfl)
      shapeCasts_S512_S512x1) broadcasts_S512x1_S512x64 = maxB v := rfl

/-- The spelled-out round, recognised. -/
theorem strikeB_fold (v : FVec Ideal S512x64 .f32) :
    select (cmpf .oeq v (maxB v)) (broadcast S512x64 (Scalar.ofBits .f32 0xFF800000#32)) v = strikeB v := rfl

/-- The block of scores with its row-wise top eight marked. -/
def maskB (v : FVec Ideal S512x64 .f32) : IVec S512x64 1 :=
  cmpf .oge v (maxB (strikeB (strikeB (strikeB (strikeB (strikeB (strikeB (strikeB v))))))))

theorem pay9_eq (w : Vec Ideal S4096x64 .f32) (x : Vec Ideal S512x4096 .f32) :
    k0_pay9 (k0_pay4 w x) (k0_pay6 w x) (k0_pay7 w x) k0_pay8 = maskB (k0_pay4 w x) := by
  unfold k0_pay9 k0_pay7 k0_pay6 k0_pay5 k0_pay8
  simp only [maxB_fold, strikeB_fold]
  rfl

theorem pay15_eq (w : Vec Ideal S4096x64 .f32) (x : Vec Ideal S512x4096 .f32) : k0_pay15 w x = k0_pay4 w x := rfl

theorem pay18_eq (w : Vec Ideal S4096x64 .f32) (x : Vec Ideal S512x4096 .f32) :
    k0_pay18 (k0_pay15 w x) (k0_pay17 w x) (Scalar.ofBits .f32 0xFF800000#32) = maskB (k0_pay4 w x) := by
  unfold k0_pay18 k0_pay17 k0_pay16
  simp only [maxB_fold, strikeB_fold, pay15_eq]
  rfl

/-- Seven rounds on a block, row by row. -/
theorem strike7_row (v : FVec Ideal S512x64 .f32) (r : Fin 512) :
    rowOf (strikeB (strikeB (strikeB (strikeB (strikeB (strikeB (strikeB v))))))) r = strike^[7] (rowOf v r) := by
  simp only [strikeB_row]
  rfl

/-- The mask reads "is one of the row's eight largest". -/
theorem maskB_apply (v : FVec Ideal S512x64 .f32) (r : Fin 512) (j : Fin 64) (hs : Sep (rowOf v r)) :
    maskB v (ix2 r j) = BitVec.ofBool (decide (Top (rowOf v r) j)) := by
  have ht : univ.sup (strike^[7] (rowOf v r)) ≤ v (ix2 r j) ↔ Top (rowOf v r) j := threshold _ hs j
  unfold maskB
  pointwise [maxB_apply, strike7_row]
  by_cases h : Top (rowOf v r) j
  · simp only [h, ht.2 h, decide_true]
  · simp only [h, mt ht.1 h, decide_false]

/-- The gates of a block from its scores, its mask and its weights. -/
theorem pay21_apply (v : FVec Ideal S512x64 .f32) (e : FVec Ideal S512x64 .f32) (r : Fin 512) (j : Fin 64)
    (hs : Sep (rowOf v r)) (he : ∀ k, e (ix2 r k) = weight (rowOf v r) k) :
    k0_pay21 (maskB v) e (ix2 r j) = gate (rowOf v r) j := by
  unfold k0_pay21
  pointwise [maskB_apply v r _ hs, he]
  rfl

theorem pay19_apply (w : Vec Ideal S4096x64 .f32) (x : Vec Ideal S512x4096 .f32) (r : Fin 512) (j : Fin 64) :
    k0_pay19 (k0_pay4 w x) (k0_pay5 w x) (ix2 r j) = weight (blockRow w x r) j := by
  rw [← pay4_row]
  unfold k0_pay19 k0_pay5
  rw [maxB_fold]
  pointwise [maxB_apply]
  rfl

/-- A one-bit truth value, widened and converted, is one or zero. -/
theorem sitofp_bit (p : Prop) [Decidable p] :
    (FloatOps.sitofp (F := Ideal) .f32 (BitVec.setWidth 32 (BitVec.ofBool (decide p))) : EReal) = if p then 1 else 0 := by
  by_cases h : p
  · simp [h, FloatOps.sitofp]
  · simp [h, FloatOps.sitofp]

/-- The first launch's record of one grid point's rows (two halves of 512 rows each): line 0 the column sums of the gates,
line 1 how often each expert is among the eight largest, line 2 the sum of the rows' logarithms, the rest zero. -/
def record (L0 L1 : Fin 512 → Fin 64 → EReal) (i : Fin 8) (j : Fin 64) : EReal :=
  if i = 0 then ∑ r, gate (L0 r) j + ∑ r, gate (L1 r) j
  else if i = 1 then ∑ r, hit (L0 r) j + ∑ r, hit (L1 r) j
  else if i = 2 then ∑ r, lse (L0 r) + ∑ r, lse (L1 r)
  else 0

/-- The comparison of a line number with a constant. -/
theorem cmpi_line (i : Fin 8) (k : Fin 8) (a b : EReal) :
    Scalar.select (IntOp.cmpi .eq (BitVec.ofNat 32 i.1) (BitVec.ofNat 32 k.1)) a b = if i = k then a else b := by
  have h : IntOp.cmpi .eq (BitVec.ofNat 32 i.1) (BitVec.ofNat 32 k.1) = BitVec.ofBool (decide (i = k)) := by
    revert i k; decide
  rw [h]
  by_cases e : i = k
  · simp [e, Scalar.select]
  · simp [e, Scalar.select]

/-- The record from the first half's sums and the second half's block. -/
theorem pay22_apply (a b : FVec Ideal S64 .f32) (z : EReal) (v : FVec Ideal S512x64 .f32) (e : FVec Ideal S512x64 .f32)
    (mx : FVec Ideal S512 .f32) (L0 : Fin 512 → Fin 64 → EReal) (i : Fin 8) (j : Fin 64)
    (ha : ∀ j, a (ix1 j) = ∑ r, gate (L0 r) j) (hb : ∀ j, b (ix1 j) = ∑ r, hit (L0 r) j) (hz : z = ∑ r, lse (L0 r))
    (hs : ∀ r, Sep (rowOf v r)) (he : ∀ r k, e (ix2 r k) = weight (rowOf v r) k) (hm : ∀ r, mx (ix1 r) = univ.sup (rowOf v r)) :
    k0_pay22 a b z (maskB v) e mx (ix2 i j) = record L0 (rowOf v) i j := by
  unfold k0_pay22
  pointwise [pay21_apply v e _ _ (hs _) (he _), maskB_apply v _ _ (hs _), he, hm]
  rw [show ((0#32 : BitVec 32)) = BitVec.ofNat 32 ((0 : Fin 8)).1 from rfl, show ((1#32 : BitVec 32)) = BitVec.ofNat 32 ((1 : Fin 8)).1 from rfl,
    show ((2#32 : BitVec 32)) = BitVec.ofNat 32 ((2 : Fin 8)).1 from rfl, cmpi_line, cmpi_line, cmpi_line, ha, hb, hz]
  simp only [sitofp_bit]
  unfold record
  rcases eq_or_ne i 0 with rfl | h0
  · simp
  rcases eq_or_ne i 1 with rfl | h1
  · simp [hit]
  rcases eq_or_ne i 2 with rfl | h2
  · simp [lse, add_comm]
  simp [h0, h1, h2]

section
variable (w : Vec Ideal S4096x64 .f32) (x x' : Vec Ideal S512x4096 .f32)

/-- The gates of the first half of a block. -/
theorem pay11_apply (r : Fin 512) (j : Fin 64) (hs : Sep (blockRow w x r)) :
    k0_pay11 (k0_pay4 w x) (k0_pay5 w x) (k0_pay6 w x) (k0_pay7 w x) k0_pay8 (ix2 r j) = gate (blockRow w x r) j := by
  have h : k0_pay11 (k0_pay4 w x) (k0_pay5 w x) (k0_pay6 w x) (k0_pay7 w x) k0_pay8
      = k0_pay21 (maskB (k0_pay4 w x)) (k0_pay19 (k0_pay4 w x) (k0_pay5 w x)) := by
    unfold k0_pay11
    rw [pay9_eq]
    rfl
  rw [h, pay21_apply, pay4_row]
  · rwa [pay4_row]
  · intro k
    rw [pay19_apply, pay4_row]

/-- The first half's column sums of the gates. -/
theorem pay12_apply (j : Fin 64) (hs : ∀ r, Sep (blockRow w x r)) :
    k0_pay12 k0_pay2 (k0_pay4 w x) (k0_pay5 w x) (k0_pay6 w x) (k0_pay7 w x) k0_pay8 (ix1 j) = ∑ r, gate (blockRow w x r) j := by
  unfold k0_pay12 k0_pay2
  pointwise [pay11_apply w x _ _ (hs _)]

/-- The first half's counts. -/
theorem pay13_apply (j : Fin 64) (hs : ∀ r, Sep (blockRow w x r)) :
    k0_pay13 k0_pay3 (k0_pay4 w x) (k0_pay6 w x) (k0_pay7 w x) k0_pay8 (ix1 j) = ∑ r, hit (blockRow w x r) j := by
  unfold k0_pay13 k0_pay3
  rw [pay9_eq]
  have hs' : ∀ r, Sep (rowOf (k0_pay4 w x) r) := fun r => by rw [pay4_row]; exact hs r
  pointwise [maskB_apply (k0_pay4 w x) _ _ (hs' _)]
  simp only [sitofp_bit, pay4_row]
  rfl

/-- The first half's sum of logarithms. -/
theorem pay14_apply : k0_pay14 (k0_pay4 w x) (k0_pay5 w x) = ∑ r, lse (blockRow w x r) := by
  have h : ∀ r k, k0_pay10 (k0_pay4 w x) (k0_pay5 w x) (ix2 r k) = weight (blockRow w x r) k := pay19_apply w x
  unfold k0_pay14
  pointwise [h]
  unfold k0_pay5
  pointwise
  rw [negInf]
  refine sum_congr rfl fun r _ => ?_
  rw [lse, add_comm, ← pay4_row]
  rfl

/-- The second half's row maxima. -/
theorem pay20_apply (r : Fin 512) : k0_pay20 (k0_pay16 w x) (ix1 r) = univ.sup (rowOf (k0_pay4 w x) r) := by
  unfold k0_pay20 k0_pay16
  pointwise
  rw [negInf]
  rfl

end

/-- Two halves of 512 rows, one after the other. -/
def halves (A B : Fin 512 → Fin 64 → EReal) (r : Fin 1024) (j : Fin 64) : EReal :=
  if h : r.1 < 512 then A ⟨r.1, h⟩ j else B ⟨r.1 - 512, by omega⟩ j

theorem halves_fst (A B : Fin 512 → Fin 64 → EReal) (a : Fin 512) (j : Fin 64) : halves A B ⟨a.1, by omega⟩ j = A a j :=
  dif_pos a.2

theorem halves_snd (A B : Fin 512 → Fin 64 → EReal) (a : Fin 512) (j : Fin 64) : halves A B ⟨512 + a.1, by omega⟩ j = B a j := by
  unfold halves
  rw [dif_neg (by dsimp only; omega)]
  congr 1
  exact Fin.ext (Nat.add_sub_cancel_left ..)

/-- What a grid point leaves in the gates' buffer. -/
theorem out0_3_apply (x0 x1 : Vec Ideal S512x4096 .f32) (w : Vec Ideal S4096x64 .f32) (hs0 : ∀ r, Sep (blockRow w x0 r))
    (hs1 : ∀ r, Sep (blockRow w x1 r)) (r : Fin 1024) (j : Fin 64) :
    out0_3 x0 x1 w (ix2 r j) = halves (fun r => gate (blockRow w x0 r)) (fun r => gate (blockRow w x1 r)) r j := by
  have e0 : View.ld x0 r0_1 = x0 := View.ld_unit_zero (by decide) _ _
  have e1 : View.ld x1 r0_1 = x1 := View.ld_unit_zero (by decide) _ _
  have e2 : View.ld w r0_0 = w := View.ld_unit_zero (by decide) _ _
  unfold_out out0_3
  rw [e0, e1, e2, pay18_eq]
  let G : Vec Ideal S1024x64 .f32 := fun y =>
    halves (fun r => gate (blockRow w x0 r)) (fun r => gate (blockRow w x1 r)) (y 0) (y 1)
  refine View.canon_apply_of_pieces G _ ?_ _ (cover0_3 _ _ _)
  intro p hp y
  simp only [List.mem_cons, List.not_mem_nil, or_false] at hp
  rcases hp with rfl | rfl
  · obtain ⟨a, b, rfl⟩ : ∃ (a : Fin 512) (b : Fin 64), y = ix2 a b := ⟨y 0, y 1, eq_ix2 y⟩
    have e : (r0_3).emb (ix2 a b) = ix2 (⟨512 + a.1, by omega⟩ : Fin 1024) b := by
      funext k; apply Fin.ext; fin_cases k
      · exact ValueKit.rect_emb_unit_val _ _ _ _ _
      · exact (ValueKit.rect_emb_unit_val _ _ _ _ _).trans (Nat.zero_add _)
    dsimp only
    rw [e, pay15_eq]
    refine (pay21_apply _ _ a b (by rw [pay4_row]; exact hs1 a) fun k => by rw [pay4_row]; exact pay19_apply w x1 a k).trans ?_
    rw [pay4_row]
    exact (halves_snd (fun r => gate (blockRow w x0 r)) (fun r => gate (blockRow w x1 r)) a b).symm
  · obtain ⟨a, b, rfl⟩ : ∃ (a : Fin 512) (b : Fin 64), y = ix2 a b := ⟨y 0, y 1, eq_ix2 y⟩
    have e : (r0_2).emb (ix2 a b) = ix2 (⟨a.1, by omega⟩ : Fin 1024) b := by
      funext k; apply Fin.ext; fin_cases k
      · exact (ValueKit.rect_emb_unit_val _ _ _ _ _).trans (Nat.zero_add _)
      · exact (ValueKit.rect_emb_unit_val _ _ _ _ _).trans (Nat.zero_add _)
    dsimp only
    rw [e, pay11_apply w x0 a b (hs0 a)]
    exact (halves_fst (fun r => gate (blockRow w x0 r)) (fun r => gate (blockRow w x1 r)) a b).symm

/-- What a grid point leaves in the record's buffer. -/
theorem out0_4_apply (x0 x1 : Vec Ideal S512x4096 .f32) (w : Vec Ideal S4096x64 .f32) (hs0 : ∀ r, Sep (blockRow w x0 r))
    (hs1 : ∀ r, Sep (blockRow w x1 r)) (i : Fin 8) (j : Fin 64) :
    out0_4 x0 x1 w (ix3 0 i j) = record (blockRow w x0) (blockRow w x1) i j := by
  have e0 : View.ld x0 r0_1 = x0 := View.ld_unit_zero (by decide) _ _
  have e1 : View.ld x1 r0_1 = x1 := View.ld_unit_zero (by decide) _ _
  have e2 : View.ld w r0_0 = w := View.ld_unit_zero (by decide) _ _
  unfold_out out0_4
  rw [e0, e1, e2, pay18_eq, View.canon_unit_zero (by decide)]
  unfold k0_pay1
  pointwise
  rw [pay22_apply _ _ _ _ _ _ (blockRow w x0) i j (fun j => pay12_apply w x0 j hs0) (fun j => pay13_apply w x0 j hs0)
    (pay14_apply w x0) (fun r => by rw [pay4_row]; exact hs1 r) (fun r k => by rw [pay4_row]; exact pay19_apply w x1 r k)
    (pay20_apply w x1)]
  congr 1
  funext r
  exact pay4_row w x1 r

end Cert.Proof.KernelBlock

end
-- ==== Proof.KernelArrays.lean ====
module

public import proofs.«01_k».proof.Proof.KernelBlock
public import Idealize.ShloMosaic.Lib.Pipeline.ValueKit

@[expose] public section

set_option maxRecDepth 16384

noncomputable section

/-! The two arrays the first launch leaves: the gates of all 8192 rows, and one record per grid point. -/

namespace Cert.Proof.KernelArrays

open Idealize.ShloMosaic Cert.KernelIdeal Cert.KernelIdeal.Gen Cert.Proof.Row Cert.Proof.KernelBlock Finset

/-- The scores of one of the 8192 rows. -/
def row (X : Vec Ideal S8192x4096 .f32) (W : Vec Ideal S4096x64 .f32) (r : Fin 8192) : Fin 64 → EReal :=
  fun j => ∑ k : Fin 4096, X (ix2 r k) * W (ix2 k j)

/-- Row `r` of the first half of grid point `t`. -/
def fstRow (t : Fin 8) (r : Fin 512) : Fin 8192 := ⟨t.1 * 1024 + r.1, by omega⟩

/-- Row `r` of the second half of grid point `t`. -/
def sndRow (t : Fin 8) (r : Fin 512) : Fin 8192 := ⟨t.1 * 1024 + 512 + r.1, by omega⟩

/-- All gates. -/
def gates (X : Vec Ideal S8192x4096 .f32) (W : Vec Ideal S4096x64 .f32) : Vec Ideal S8192x64 .f32 :=
  fun i => gate (row X W (i 0)) (i 1)

/-- All records. -/
def records (X : Vec Ideal S8192x4096 .f32) (W : Vec Ideal S4096x64 .f32) : Vec Ideal S8x8x64 .f32 :=
  fun i => record (fun r => row X W (fstRow (i 0) r)) (fun r => row X W (sndRow (i 0) r)) (i 1) (i 2)

theorem idx0 : ∀ t : Fin cfg0.N, win0_0.index t = ![2 * t.1, 0] := (by decide +kernel : ∀ t : Fin grid0.N, _)
theorem idx1 : ∀ t : Fin cfg0.N, win0_1.index t = ![2 * t.1 + 1, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.1, 0] := (by decide +kernel : ∀ t : Fin grid0.N, _)
theorem idx4 : ∀ t : Fin cfg0.N, win0_4.index t = ![t.1, 0, 0] := (by decide +kernel : ∀ t : Fin grid0.N, _)

theorem pointRow_lt (t : Fin 8) (a : Fin 1024) : t.1 * 1024 + a.1 < 8192 := by omega

/-- The two halves of a grid point's rows, one after the other, are its 1024 rows. -/
theorem halves_rows (f : Fin 8192 → Fin 64 → EReal) (t : Fin 8) (a : Fin 1024) (b : Fin 64) :
    halves (fun r => f (fstRow t r)) (fun r => f (sndRow t r)) a b = f ⟨t.1 * 1024 + a.1, pointRow_lt t a⟩ b := by
  unfold halves fstRow sndRow
  split
  · rfl
  · exact congrArg (fun q => f q b) (Fin.ext (by
      change t.1 * 1024 + 512 + (a.1 - 512) = t.1 * 1024 + a.1
      omega))

section
variable (V : (c : Dev nD) → (b : Ref sig .tc) → Buf (Elt Ideal) ((c.tc : Thread nD τ).loc b)) (c : Dev nD)

/-- The scores as the first launch finds its operands. -/
abbrev rowV (r : Fin 8192) : Fin 64 → EReal := row (V c main_arg0) (V c main_arg1) r

theorem blk0 (t : Fin cfg0.N) (r : Fin 512) (k : Fin 4096) :
    iblk0 V c 0 t (ix2 r k) = V c main_arg0 (ix2 (fstRow t r) k) := by
  blk_simp [iblk0]
  congr 1
  blk_ext [idx0 t]
  change 2 * t.1 * 512 + r.1 = t.1 * 1024 + r.1
  omega

theorem blk1 (t : Fin cfg0.N) (r : Fin 512) (k : Fin 4096) :
    iblk0 V c 1 t (ix2 r k) = V c main_arg0 (ix2 (sndRow t r) k) := by
  blk_simp [iblk0]
  congr 1
  blk_ext [idx1 t]
  change (2 * t.1 + 1) * 512 + r.1 = t.1 * 1024 + 512 + r.1
  omega

theorem blk2 (t : Fin cfg0.N) : iblk0 V c 2 t = V c main_arg1 := by
  funext y
  blk_simp [iblk0]
  congr 1
  blk_ext [idx2 t]

/-- The first half of grid point `t` is rows `1024 t …` of the scores. -/
theorem blockRow0 (t : Fin cfg0.N) (r : Fin 512) : blockRow (iblk0 V c 2 t) (iblk0 V c 0 t) r = rowV V c (fstRow t r) := by
  funext j
  unfold blockRow rowV row
  simp only [blk0, blk2]

/-- The second half is the 512 rows after them. -/
theorem blockRow1 (t : Fin cfg0.N) (r : Fin 512) : blockRow (iblk0 V c 2 t) (iblk0 V c 1 t) r = rowV V c (sndRow t r) := by
  funext j
  unfold blockRow rowV row
  simp only [blk1, blk2]

variable (hs : ∀ r, Sep (rowV V c r))
include hs

/-- The first launch leaves the gates. -/
theorem arr_gates : (dat0 V c).arrAt 3 cfg0.N = gates (V c main_arg0) (V c main_arg1) := by
  refine (dat0 V c).arrAt_eq_of_covers 3 _ (by decide +kernel) fun t hf y => ?_
  blk_simp
  rw [after0_3]
  obtain ⟨a, b, rfl⟩ : ∃ (a : Fin 1024) (b : Fin 64), y = ix2 a b := ⟨y 0, y 1, eq_ix2 y⟩
  have e : (win0_3.blk t).view.emb (ix2 a b) = ix2 (⟨t.1 * 1024 + a.1, pointRow_lt t a⟩ : Fin 8192) b := by
    blk_ext [idx3 t]
  rw [e]
  refine (out0_3_apply _ _ _ (fun r => by rw [blockRow0]; exact hs _) (fun r => by rw [blockRow1]; exact hs _) a b).trans ?_
  simp only [blockRow0, blockRow1]
  exact halves_rows (fun r => gate (rowV V c r)) t a b

/-- The first launch leaves the records. -/
theorem arr_records : (dat0 V c).arrAt 4 cfg0.N = records (V c main_arg0) (V c main_arg1) := by
  refine (dat0 V c).arrAt_eq_of_covers 4 _ (by decide +kernel) fun t hf y => ?_
  blk_simp
  rw [after0_4]
  obtain ⟨a, b, d, rfl⟩ : ∃ (a : Fin 1) (b : Fin 8) (d : Fin 64), y = ix3 a b d := ⟨y 0, y 1, y 2, eq_ix3 y⟩
  have e : (win0_4.blk t).view.emb (ix3 a b d) = ix3 (n0 := 8) t b d := by
    blk_ext [idx4 t]
  rw [e, Subsingleton.elim a 0]
  refine (out0_4_apply _ _ _ (fun r => by rw [blockRow0]; exact hs _) (fun r => by rw [blockRow1]; exact hs _) b d).trans ?_
  rw [show blockRow (iblk0 V c 2 t) (iblk0 V c 0 t) = _ from funext (blockRow0 V c t),
    show blockRow (iblk0 V c 2 t) (iblk0 V c 1 t) = _ from funext (blockRow1 V c t)]
  rfl

end

end Cert.Proof.KernelArrays

end
-- ==== Proof.KernelFinal.lean ====
module

public import proofs.«01_k».proof.Proof.KernelArrays

@[expose] public section

set_option maxRecDepth 16384

noncomputable section

/-! The second launch: it adds up the records and forms the loss. -/

namespace Cert.Proof.KernelFinal

open Idealize.ShloMosaic Cert.KernelIdeal Cert.KernelIdeal.Gen Cert.Proof.Row Cert.Proof.KernelBlock Cert.Proof.KernelArrays Finset

/-- The mean of a vector over the experts. -/
def mean (v : Fin 64 → EReal) : EReal := Ideal.div (∑ j, v j) (Ideal.ofBits .f32 0x42800000#32)

/-- The squared coefficient of variation: the variance (one degree of freedom taken off) over the squared mean. -/
def cvSq (v : Fin 64 → EReal) : EReal :=
  Ideal.div (Ideal.div (∑ j, (v j - mean v) * (v j - mean v)) (Ideal.ofBits .f32 0x427C0000#32))
    (mean v * mean v + Ideal.ofBits .f32 0x2EDBE6FF#32)

/-- The loss from importance, load and the rows' logarithms. -/
def loss (imp load : Fin 64 → EReal) (z : EReal) : EReal :=
  cvSq imp + cvSq load + Ideal.div z (Ideal.ofBits .f32 0x46000000#32)

/-- Line `i` of the records, added over the grid points. -/
def line (P : Vec Ideal S8x8x64 .f32) (i : Fin 8) (j : Fin 64) : EReal := ∑ t : Fin 8, P (ix3 t i j)

theorem pay3_apply (P : Vec Ideal S8x8x64 .f32) (j : Fin 64) : k1_pay3 P (ix2 0 j) = line P 0 j := by
  unfold k1_pay3 k1_pay2 line
  pointwise

theorem pay4_apply (P : Vec Ideal S8x8x64 .f32) (j : Fin 64) : k1_pay4 P (ix2 0 j) = line P 1 j := by
  unfold k1_pay4 k1_pay2 line
  pointwise

theorem pay5_eq (P : Vec Ideal S8x8x64 .f32) : k1_pay5 P = line P 2 0 := by
  unfold k1_pay5 k1_pay2 line
  pointwise

theorem pay6_eq (P : Vec Ideal S8x8x64 .f32) : k1_pay6 P = cvSq (line P 0) := by
  unfold k1_pay6 cvSq mean
  pointwise [pay3_apply, Fin.sum_univ_one]

theorem pay7_eq (P : Vec Ideal S8x8x64 .f32) : k1_pay7 P = mean (line P 1) := by
  unfold k1_pay7 mean
  pointwise [pay4_apply, Fin.sum_univ_one]

theorem pay89_eq (P : Vec Ideal S8x8x64 .f32) : Ideal.div (k1_pay8 P) (k1_pay9 P) = cvSq (line P 1) := by
  unfold k1_pay8 k1_pay9 cvSq
  rw [pay7_eq]
  pointwise [pay4_apply, Fin.sum_univ_one]

theorem pay1_eq (P : Vec Ideal S8x8x64 .f32) :
    k1_pay1 (k1_pay5 P) (k1_pay6 P) (k1_pay8 P) (k1_pay9 P) = loss (line P 0) (line P 1) (line P 2 0) := by
  unfold k1_pay1 loss
  pointwise [pay5_eq, pay6_eq, pay89_eq]

section
variable (V : (c : Dev nD) → (b : Ref sig .tc) → Buf (Elt Ideal) ((c.tc : Thread nD τ).loc b)) (c : Dev nD)

theorem idx1_0 : ∀ t : Fin cfg1.N, win1_0.index t = ![0, 0, 0] := (by decide +kernel : ∀ t : Fin grid1.N, _)
theorem idx1_1 : ∀ t : Fin cfg1.N, win1_1.index t = ![0, 0] := (by decide +kernel : ∀ t : Fin grid1.N, _)
theorem idx1_2 : ∀ t : Fin cfg1.N, win1_2.index t = ![0, 0] := (by decide +kernel : ∀ t : Fin grid1.N, _)

theorem iblk1_eq (t : Fin cfg1.N) : iblk1 V c 0 t = V c main_v0_1 := by
  funext y
  blk_simp [iblk1]
  congr 1
  blk_ext [idx1_0 t]

/-- The second launch leaves the importance. -/
theorem arr_imp : (dat1 V c).arrAt 1 cfg1.N = fun i => line (V c main_v0_1) 0 (i 1) := by
  refine (dat1 V c).arrAt_eq_of_covers 1 _ (by decide +kernel) fun t hf y => ?_
  blk_simp
  rw [after1_1]
  unfold outsAt1
  dsimp only
  frame_out
  rw [(hs1_0 t).read_unread, iblk1_eq]
  obtain ⟨a, b, rfl⟩ : ∃ (a : Fin 1) (b : Fin 64), y = ix2 a b := ⟨y 0, y 1, eq_ix2 y⟩
  rw [Subsingleton.elim a 0]
  refine (pay3_apply _ b).trans (congrArg _ (Fin.ext ?_))
  blk_simp [idx1_1 t]

/-- The second launch leaves the load. -/
theorem arr_load : (dat1 V c).arrAt 2 cfg1.N = fun i => line (V c main_v0_1) 1 (i 1) := by
  refine (dat1 V c).arrAt_eq_of_covers 2 _ (by decide +kernel) fun t hf y => ?_
  blk_simp
  rw [after1_2]
  unfold outsAt1
  dsimp only
  frame_out
  rw [(hs1_0 t).read_unread, iblk1_eq]
  obtain ⟨a, b, rfl⟩ : ∃ (a : Fin 1) (b : Fin 64), y = ix2 a b := ⟨y 0, y 1, eq_ix2 y⟩
  rw [Subsingleton.elim a 0]
  refine (pay4_apply _ b).trans (congrArg _ (Fin.ext ?_))
  blk_simp [idx1_2 t]

/-- The second launch leaves the loss. -/
theorem arr_loss : (dat1 V c).arrAt 3 cfg1.N
    = fun _ => loss (line (V c main_v0_1) 0) (line (V c main_v0_1) 1) (line (V c main_v0_1) 2 0) := by
  refine (dat1 V c).arrAt_eq_of_covers 3 _ (by decide +kernel) fun t hf y => ?_
  blk_simp
  rw [after1_3]
  unfold outsAt1
  dsimp only
  frame_out
  rw [(hs1_0 t).read_unread, iblk1_eq]
  exact pay1_eq _

end

end Cert.Proof.KernelFinal

end
-- ==== Proof.Totals.lean ====
module

public import proofs.«01_k».proof.Proof.KernelFinal

@[expose] public section

set_option maxRecDepth 16384

noncomputable section

/-! The records added over the grid points are the sums over all 8192 rows. -/

namespace Cert.Proof.Totals

open Idealize.ShloMosaic Cert.KernelIdeal Cert.Proof.Row Cert.Proof.KernelBlock Cert.Proof.KernelArrays Cert.Proof.KernelFinal Finset

/-- The importance: the gates added over the rows. -/
def importance (X : Vec Ideal S8192x4096 .f32) (W : Vec Ideal S4096x64 .f32) (j : Fin 64) : EReal :=
  ∑ r : Fin 8192, gate (row X W r) j

/-- The load: how many rows choose each expert. -/
def load (X : Vec Ideal S8192x4096 .f32) (W : Vec Ideal S4096x64 .f32) (j : Fin 64) : EReal :=
  ∑ r : Fin 8192, hit (row X W r) j

/-- The rows' logarithms of summed exponentials, added. -/
def zsum (X : Vec Ideal S8192x4096 .f32) (W : Vec Ideal S4096x64 .f32) : EReal :=
  ∑ r : Fin 8192, lse (row X W r)

/-- A row as its grid point and its place among that point's two halves. -/
def split : Fin 8 × (Fin 512 ⊕ Fin 512) ≃ Fin 8192 :=
  ((Equiv.refl (Fin 8)).prodCongr finSumFinEquiv).trans finProdFinEquiv

theorem split_inl (t : Fin 8) (r : Fin 512) : split (t, Sum.inl r) = fstRow t r :=
  Fin.ext (by
    change r.1 + (512 + 512) * t.1 = t.1 * 1024 + r.1
    omega)

theorem split_inr (t : Fin 8) (r : Fin 512) : split (t, Sum.inr r) = sndRow t r :=
  Fin.ext (by
    change (512 + r.1) + (512 + 512) * t.1 = t.1 * 1024 + 512 + r.1
    omega)

/-- A sum over the rows, grid point by grid point and half by half. -/
theorem sum_rows (f : Fin 8192 → EReal) :
    ∑ t : Fin 8, ((∑ r, f (fstRow t r)) + ∑ r, f (sndRow t r)) = ∑ r, f r := by
  rw [← Equiv.sum_comp split f, Fintype.sum_prod_type]
  simp only [Fintype.sum_sum_type, split_inl, split_inr]

variable (X : Vec Ideal S8192x4096 .f32) (W : Vec Ideal S4096x64 .f32)

/-- Line 0 holds the importance. -/
theorem line_importance (j : Fin 64) : line (records X W) 0 j = importance X W j := by
  unfold importance
  rw [← sum_rows fun r => gate (row X W r) j]
  rfl

/-- Line 1 holds the load. -/
theorem line_load (j : Fin 64) : line (records X W) 1 j = load X W j := by
  unfold load
  rw [← sum_rows fun r => hit (row X W r) j]
  rfl

/-- Line 2 holds the rows' logarithms. -/
theorem line_zsum (j : Fin 64) : line (records X W) 2 j = zsum X W := by
  unfold zsum
  rw [← sum_rows fun r => lse (row X W r)]
  rfl

end Cert.Proof.Totals

end
-- ==== Proof.KernelRun.lean ====
module

public import proofs.«01_k».proof.Proof.Totals
public import proofs.«01_k».proof.Proof.Gen.KernelIdeal.Frame

@[expose] public section

set_option maxRecDepth 16384

noncomputable section

/-! What the kernel program leaves in its four results. -/

namespace Cert.Proof.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Proof.Row Cert.Proof.KernelArrays Cert.Proof.KernelFinal Cert.Proof.Totals

local notation "𝕄" => MT nD τ sig Unit (Elt Ideal) ℕ (UR sig nD τ) ℕ

variable (m : (ℓ : Loc nD τ sig) → Buf (Elt Ideal) ℓ) (ρ : Dev nD → PrngReg)

/-- The tokens at launch. -/
abbrev argX (c : Dev nD) : Vec Ideal S8192x4096 .f32 := m ((c : Thread nD τ).loc main_arg0)

/-- The gate weights at launch. -/
abbrev argW (c : Dev nD) : Vec Ideal S4096x64 .f32 := m ((c : Thread nD τ).loc main_arg1)

section
variable (hs : ∀ (c : Dev nD) r, Sep (row (argX m c) (argW m c) r)) (c : Dev nD)
include hs

/-- The records as the second launch finds them. -/
theorem records_V1 : V1 m ρ c main_v0_1 = records (argX m c) (argW m c) :=
  (W1_arr m ρ c 4).trans (arr_records (V0 m ρ) c (hs c))

/-- The gates at the end. -/
theorem W3_gates : W3 m ρ c (Proc.devRef .tc main_v0_0) = gates (argX m c) (argW m c) :=
  (W3_of m ρ c main_v0_0 (by decide)).trans ((W2_of m ρ c main_v0_0 (by decide)).trans
    ((W1_arr m ρ c 3).trans (arr_gates (V0 m ρ) c (hs c))))

/-- The importance at the end. -/
theorem W3_importance : W3 m ρ c (Proc.devRef .tc main_v3) = fun i => importance (argX m c) (argW m c) (i 0) := by
  have h : W3 m ρ c (Proc.devRef .tc main_v3) = shapeCast S64 (W2 m ρ c (Proc.devRef .tc main_v1_0)) (by decide) := by
    unfold W3
    after_results
    rfl
  rw [h, show W2 m ρ c (Proc.devRef .tc main_v1_0) = _ from (W2_arr m ρ c 1).trans (arr_imp (V1 m ρ) c),
    records_V1 m ρ hs c]
  funext i
  obtain ⟨j, rfl⟩ : ∃ j : Fin 64, i = ix1 j := ⟨i 0, eq_ix1 i⟩
  pointwise [line_importance]

/-- The load at the end. -/
theorem W3_load : W3 m ρ c (Proc.devRef .tc main_v4) = fun i => load (argX m c) (argW m c) (i 0) := by
  have h : W3 m ρ c (Proc.devRef .tc main_v4) = shapeCast S64 (W2 m ρ c (Proc.devRef .tc main_v1_1)) (by decide) := by
    unfold W3
    after_results
    rfl
  rw [h, show W2 m ρ c (Proc.devRef .tc main_v1_1) = _ from (W2_arr m ρ c 2).trans (arr_load (V1 m ρ) c),
    records_V1 m ρ hs c]
  funext i
  obtain ⟨j, rfl⟩ : ∃ j : Fin 64, i = ix1 j := ⟨i 0, eq_ix1 i⟩
  pointwise [line_load]

/-- The loss at the end. -/
theorem W3_loss : W3 m ρ c (Proc.devRef .tc main_v2)
    = fun _ => loss (importance (argX m c) (argW m c)) (load (argX m c) (argW m c)) (zsum (argX m c) (argW m c)) := by
  have h : W3 m ρ c (Proc.devRef .tc main_v2) = shapeCast S_ (W2 m ρ c (Proc.devRef .tc main_v1_2)) (by decide) := by
    unfold W3
    after_results
    rfl
  rw [h, show W2 m ρ c (Proc.devRef .tc main_v1_2) = _ from (W2_arr m ρ c 3).trans (arr_loss (V1 m ρ) c),
    records_V1 m ρ hs c, show line (records (argX m c) (argW m c)) 0 = _ from funext (line_importance _ _),
    show line (records (argX m c) (argW m c)) 1 = _ from funext (line_load _ _), line_zsum]
  rfl

end

set_option backward.isDefEq.respectTransparency.types false in
/-- The kernel program ends with the gates, the loss, the importance and the load in its results, its arguments as
    they were, whenever every row of scores has a clear choice of eight. The launch's set-up is the frame's; its last
    step reads the results as well. -/
theorem run (hs : ∀ (c : Dev nD) r, Sep (row (argX m c) (argW m c) r)) :
    θ_run defs (onTc (τ := τ) (main (F := Ideal))) ⟨m, fun _ => 0, ρ⟩ (fun r => ∀ c : Dev nD,
      r.2.mem ((c.tc : Thread nD τ).loc main_v0_0) = gates (argX m c) (argW m c)
      ∧ r.2.mem ((c.tc : Thread nD τ).loc main_v2)
        = (fun _ => loss (importance (argX m c) (argW m c)) (load (argX m c) (argW m c)) (zsum (argX m c) (argW m c)))
      ∧ r.2.mem ((c.tc : Thread nD τ).loc main_v3) = (fun i => importance (argX m c) (argW m c) (i 0))
      ∧ r.2.mem ((c.tc : Thread nD τ).loc main_v4) = (fun i => load (argX m c) (argW m c) (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨(h c _ (mem_uc main_v0_0 (by decide))).trans (W3_gates m ρ hs c),
       (h c _ (mem_uc main_v2 (by decide))).trans (W3_loss m ρ hs c),
       (h c _ (mem_uc main_v3 (by decide))).trans (W3_importance m ρ hs c),
       (h c _ (mem_uc main_v4 (by decide))).trans (W3_load m ρ hs c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end Cert.Proof.KernelRun

end
-- ==== Proof.RefTopk.lean ====
module

public import proofs.«01_k».proof.Proof.Totals
public import proofs.«01_k».proof.Proof.Gen.ReferenceIdeal.Read

@[expose] public section

set_option maxRecDepth 16384

noncomputable section

/-! The reference's scores and its choice of the eight largest of each row. -/

namespace Cert.Proof.RefTopk

open Idealize.ShloMosaic Cert.ReferenceIdeal Cert.ReferenceIdeal.Read Cert.Proof.Row Cert.Proof.KernelArrays Finset

/-- The order in which the sort lists the entries of row `r`. -/
def order (L : Vec Ideal S8192x64 .f32) (r : Fin 8192) : Fin 64 → Fin 64 :=
  sortedFrom fun k k' => FloatOps.cmpfTotal (F := Ideal) (φ := .f32) .gt (L (ix2 r k)) (L (ix2 r k')) == 1#1

/-- The sort lists a row in descending order. -/
theorem order_desc (L : Vec Ideal S8192x64 .f32) (r : Fin 8192) : Desc (fun j => L (ix2 r j)) (order L r) := by
  refine desc_sorted _ _ fun a b => ?_
  change (BitVec.ofBool (decide (L (ix2 r b) < L (ix2 r a))) == 1#1) = true ↔ _
  by_cases h : L (ix2 r b) < L (ix2 r a) <;> simp [h]

theorem along_ix2 (r : Fin 8192) (j k : Fin 64) : (ix2 r j : S8192x64.Idx).along 1 k = ix2 r k := by
  funext a
  match a with
  | ⟨0, _⟩ => rfl
  | ⟨1, _⟩ => rfl

/-- Both results of the sort, read at one place. -/
theorem sorted_at (L : Vec Ideal S8192x64 .f32) (y : IVec S8192x64 32) (r : Fin 8192) (s : Fin 64) :
    (Host.sort2 S8192x64 1 (fun a b => FloatOps.cmpfTotal (F := Ideal) (φ := .f32) .gt a.1 b.1) L y).1 (ix2 r s) = L (ix2 r (order L r s))
    ∧ (Host.sort2 S8192x64 1 (fun a b => FloatOps.cmpfTotal (F := Ideal) (φ := .f32) .gt a.1 b.1) L y).2 (ix2 r s) = y (ix2 r (order L r s)) := by
  unfold Host.sort2
  rw [dif_pos (by decide)]
  have h : (ix2 r s : S8192x64.Idx).along 1 (sortedFrom (fun k k' => FloatOps.cmpfTotal (F := Ideal) (φ := .f32) .gt
      (L ((ix2 r s : S8192x64.Idx).along 1 k)) (L ((ix2 r s : S8192x64.Idx).along 1 k')) == 1#1) s) = ix2 r (order L r s) := by
    have e : (fun k : Fin 64 => L ((ix2 r s : S8192x64.Idx).along 1 k)) = fun k => L (ix2 r k) :=
      funext fun k => congrArg L (along_ix2 r s k)
    exact (along_ix2 r s _).trans (congrArg (fun f : Fin 64 → EReal => (ix2 r (sortedFrom (fun k k' =>
      FloatOps.cmpfTotal (F := Ideal) (φ := .f32) .gt (f k) (f k') == 1#1) s) : S8192x64.Idx)) e)
  exact ⟨congrArg L h, congrArg y h⟩

variable (X : Vec Ideal S8192x4096 .f32) (W : Vec Ideal S4096x64 .f32)

/-- The reference's scores. -/
theorem scores (r : Fin 8192) (j : Fin 64) : val_main_v0 (F := Ideal) X W (ix2 r j) = row X W r j := by
  unfold val_main_v0 row
  pointwise

/-- The listing of row `r`. -/
abbrev ord (r : Fin 8192) : Fin 64 → Fin 64 := order (val_main_v0 (F := Ideal) X W) r

theorem ord_desc (r : Fin 8192) : Desc (row X W r) (ord X W r) := by
  have h := order_desc (val_main_v0 (F := Ideal) X W) r
  simp only [scores] at h
  exact h

/-- The `q`-th chosen score. -/
theorem chosen (r : Fin 8192) (q : Fin 8) :
    val_main_v1 (F := Ideal) X W (ix2 r q) = row X W r (ord X W r (Fin.castLE (by decide) q)) := by
  rw [val_main_v1_apply]
  unfold val_main_values Host.topK
  dsimp only
  rw [extractStridedSlice_apply (fun _ => 0) _ _ _ (ix2 r (Fin.castLE (by decide) q)) (fun a => by
    match a with
    | ⟨0, _⟩ => exact (Nat.zero_add _).symm
    | ⟨1, _⟩ => exact (Nat.zero_add _).symm), (sorted_at _ _ _ _).1, scores]

/-- The `q`-th chosen place. -/
theorem place (r : Fin 8192) (q : Fin 8) :
    val_main_v2 (F := Ideal) X W (ix2 r q) = BitVec.ofNat 32 (ord X W r (Fin.castLE (by decide) q)).1 := by
  rw [val_main_v2_apply]
  unfold val_main_indices Host.topK
  dsimp only
  rw [extractStridedSlice_apply (fun _ => 0) _ _ _ (ix2 r (Fin.castLE (by decide) q)) (fun a => by
    match a with
    | ⟨0, _⟩ => exact (Nat.zero_add _).symm
    | ⟨1, _⟩ => exact (Nat.zero_add _).symm), (sorted_at _ _ _ _).2, dif_pos (by decide)]
  rfl

/-- The softmax over the chosen eight gives the gates. -/
theorem softmax (hs : ∀ r, Sep (row X W r)) (r : Fin 8192) (q : Fin 8) :
    val_main_v13 (F := Ideal) X W (ix2 r q) = gate (row X W r) (ord X W r (Fin.castLE (by decide) q)) := by
  have hd := ord_desc X W r
  rw [gate_of_top _ _ ((top_iff (hs r) hd _).2 q.2), total_eq _ (hs r) _ hd]
  unfold val_main_v13 val_main_v12 val_main_v11 val_main_v10 val_main_v9 val_main_v8 val_main_v7 val_main_v6 val_main_v5
    val_main_v4 val_main_v3 val_main_cst val_main_cst_0 val_main_cst_1
  pointwise [chosen]
  have e : max (Ideal.ofBits .f32 0xFF800000#32) ((univ : Finset (Fin 8)).fold max (Ideal.ofBits .f32 0xFF800000#32)
      fun x => row X W r (ord X W r (Fin.castLE (by decide) x))) = univ.sup (row X W r) := by
    rw [KernelBlock.negInf, max_eq_right bot_le]
    exact sup_first _ _ hd
  rw [e]
  rfl

end Cert.Proof.RefTopk

end
-- ==== Proof.RefGates.lean ====
module

public import proofs.«01_k».proof.Proof.RefTopk
public import Idealize.ShloMosaic.Lib.Routing.OpsSet
public import Idealize.ShloMosaic.Lib.Tactic.WordOmega

@[expose] public section

set_option maxRecDepth 16384

noncomputable section

/-! The reference's gates: the softmax of the chosen eight, scattered into a row of zeros. -/

namespace Cert.Proof.RefGates

open Idealize.ShloMosaic Cert.ReferenceIdeal Cert.ReferenceIdeal.Read Cert.Proof.Row Cert.Proof.KernelArrays Cert.Proof.RefTopk Finset

/-- A small number as a word, read signed. -/
theorem toInt_small (n : ℕ) (h : n < 8192) : (BitVec.ofNat 32 n).toInt = n := by
  rw [BitVec.toInt_eq_toNat_cond, BitVec.toNat_ofNat, Nat.mod_eq_of_lt (by omega), if_pos (by omega)]

/-- A small number is not negative as a word, so the index wrap leaves it. -/
theorem small (n : ℕ) (h : n < 8192) : (BitVec.ofNat 32 n).toNat < 2 ^ (32 - 1) := by
  rw [BitVec.toNat_ofNat]
  omega

variable (X : Vec Ideal S8192x4096 .f32) (W : Vec Ideal S4096x64 .f32)

/-- The row an update goes to. -/
theorem target_row (r : Fin 8192) (q : Fin 8) : val_main_v30 (F := Ideal) X W (ix3 r q 0) = BitVec.ofNat 32 r.1 := by
  unfold val_main_v30 val_main_v28 val_main_v27 val_main_v21 val_main_v20 val_main_v19 val_main_v18 val_main_v17 val_main_v15 val_main_v14 val_main_c val_main_c_3
  pointwise
  exact Routing.wrap_of_lt _ _ (small _ r.2)

/-- The expert an update goes to. -/
theorem target_expert (r : Fin 8192) (q : Fin 8) :
    val_main_v30 (F := Ideal) X W (ix3 r q 1) = BitVec.ofNat 32 (ord X W r (Fin.castLE (by decide) q)).1 := by
  unfold val_main_v30 val_main_v29 val_main_v26 val_main_v25 val_main_v24 val_main_v23 val_main_v22 val_main_c_4 val_main_c_5
  pointwise [place]
  exact Routing.wrap_of_lt _ _ (small _ ((ord X W r _).2.trans (by decide)))

/-- Where an update lands. -/
theorem lands (r r' : Fin 8192) (q : Fin 8) (j : Fin 64) :
    scatter_S8192x64_S8192x8x2_S8192x8_n_01_01_2.resultIdx? (ix2 r q) (val_main_v30 (F := Ideal) X W) = some (ix2 r' j)
      ↔ r = r' ∧ ord X W r (Fin.castLE (by decide) q) = j := by
  rw [ix2_eq_valueIdx, ix2_eq_valueIdx]
  refine (Routing.scatter_lands2 scatter_S8192x64_S8192x8x2_S8192x8_n_01_01_2 rfl rfl rfl (val_main_v30 (F := Ideal) X W) r q r' j).trans ?_
  rw [← ix3_eq_valueIdx, ← ix3_eq_valueIdx, target_row, target_expert, toInt_small _ r.2,
    toInt_small _ ((ord X W r _).2.trans (by decide)), Nat.cast_inj, Nat.cast_inj, Fin.val_inj, Fin.val_inj]

/-- The reference's gates. -/
theorem gates_eq (hs : ∀ r, Sep (row X W r)) : val_main_v31 (F := Ideal) X W = gates X W := by
  funext i
  obtain ⟨r, j, rfl⟩ : ∃ (r : Fin 8192) (j : Fin 64), i = ix2 r j := ⟨i 0, i 1, eq_ix2 i⟩
  change _ = gate (row X W r) j
  unfold val_main_v31
  have hd := ord_desc X W r
  obtain ⟨s, rfl⟩ := hd.bij.2 j
  by_cases h : s.1 < 8
  · refine Routing.scatter_set_hit _ _ _ _ _ _ (fun k hk => ?_) (ix2 r ⟨s.1, h⟩) ((lands X W r r _ _).2 ⟨rfl, rfl⟩)
    obtain ⟨r', q, rfl⟩ : ∃ (r' : Fin 8192) (q : Fin 8), k = ix2 r' q := ⟨k 0, k 1, eq_ix2 k⟩
    obtain ⟨rfl, e⟩ := (lands X W r' _ q _).1 hk
    rw [softmax X W hs, e]
  · rw [gate_of_not_top _ (hs r) _ (by rw [top_iff (hs r) hd]; exact h)]
    refine (Routing.scatter_set_miss _ _ _ _ _ fun k hk => ?_).trans ?_
    · obtain ⟨r', q, rfl⟩ : ∃ (r' : Fin 8192) (q : Fin 8), k = ix2 r' q := ⟨k 0, k 1, eq_ix2 k⟩
      obtain ⟨rfl, e⟩ := (lands X W r' _ q _).1 hk
      have := hd.bij.1 e
      exact h (by rw [← this]; exact q.2)
    · unfold val_main_v16 val_main_cst_2
      pointwise

end Cert.Proof.RefGates

end
-- ==== Proof.RefLoss.lean ====
module

public import proofs.«01_k».proof.Proof.RefGates

@[expose] public section

set_option maxRecDepth 16384

noncomputable section

/-! The reference's importance, load and loss. -/

namespace Cert.Proof.RefLoss

open Idealize.ShloMosaic Cert.ReferenceIdeal Cert.ReferenceIdeal.Read Cert.Proof.Row Cert.Proof.KernelArrays
open Cert.Proof.KernelFinal Cert.Proof.Totals Cert.Proof.RefTopk Cert.Proof.RefGates Finset

theorem word64 : Ideal.ofBits .f32 0x42800000#32 = ((64 : ℝ) : EReal) := by
  simp only [Ideal.ofBits, Ideal.ieee]
  simp
  rw [← EReal.coe_mul]
  norm_num

theorem word63 : Ideal.ofBits .f32 0x427C0000#32 = ((63 : ℝ) : EReal) := by
  simp only [Ideal.ofBits, Ideal.ieee]
  simp
  rw [← EReal.coe_mul]
  norm_num

/-- The degrees of freedom: sixty-four less one. -/
theorem freedom0 : val_main_call0_v8 (F := Ideal) ix0 = Ideal.ofBits .f32 0x427C0000#32 := by
  unfold val_main_call0_v8 val_main_call0_cst_1 val_main_call0_v7 val_main_c_11
  pointwise
  rw [word64, word63]
  change ((64 : ℝ) : EReal) - (((1#32 : BitVec 32).toInt : ℝ) : EReal) = _
  rw [← EReal.coe_sub]
  norm_num

theorem freedom1 : val_main_call1_v8 (F := Ideal) ix0 = Ideal.ofBits .f32 0x427C0000#32 := freedom0

/-- There are some degrees of freedom. -/
theorem free0 : val_main_call0_v11 (F := Ideal) ix0 = 1#1 := by
  unfold val_main_call0_v11 val_main_call0_cst_3
  pointwise [freedom0, word63]
  rw [decide_eq_true (EReal.coe_pos.2 (by norm_num))]
  rfl

theorem free1 : val_main_call1_v11 (F := Ideal) ix0 = 1#1 := free0

section
variable (X : Vec Ideal S8192x4096 .f32) (W : Vec Ideal S4096x64 .f32)

/-- The reference's sum of the rows' logarithms. -/
theorem zsum_eq : val_main_v59 (F := Ideal) X W ix0 = zsum X W := by
  unfold val_main_v59 val_main_v58 val_main_v57 val_main_v56 val_main_v55 val_main_v54 val_main_v53 val_main_v52 val_main_v51 val_main_v50
    val_main_cst_17 val_main_cst_18 val_main_cst_19
  pointwise [scores]
  rw [KernelBlock.negInf]
  rfl

variable (hs : ∀ r, Sep (row X W r))
include hs

/-- The reference's importance. -/
theorem importance_eq : val_main_v36 (F := Ideal) X W = fun i => importance X W (i 0) := by
  funext i
  obtain ⟨j, rfl⟩ : ∃ j : Fin 64, i = ix1 j := ⟨i 0, eq_ix1 i⟩
  unfold val_main_v36 val_main_cst_8
  rw [gates_eq X W hs]
  pointwise
  rfl

/-- The reference's load. -/
theorem load_eq : val_main_v35 (F := Ideal) X W = fun i => load X W (i 0) := by
  funext i
  obtain ⟨j, rfl⟩ : ∃ j : Fin 64, i = ix1 j := ⟨i 0, eq_ix1 i⟩
  unfold val_main_v35 val_main_v34 val_main_v33 val_main_v32 val_main_cst_6 val_main_cst_7
  rw [gates_eq X W hs]
  pointwise
  refine sum_congr rfl fun r _ => ?_
  change FloatOps.uitofp (F := Ideal) .f32 (BitVec.ofBool (decide (0 < gate (row X W r) j))) = hit (row X W r) j
  unfold hit
  by_cases h : Top (row X W r) j
  · rw [if_pos h, decide_eq_true ((gate_pos_iff _ (hs r) j).2 h)]
    change (((BitVec.ofBool true).toNat : ℝ) : EReal) = 1
    simp
  · rw [if_neg h, decide_eq_false (fun h' => h ((gate_pos_iff _ (hs r) j).1 h'))]
    change (((BitVec.ofBool false).toNat : ℝ) : EReal) = 0
    simp

/-- The reference's squared coefficient of variation of the importance. -/
theorem cv_importance : val_main_v42 (F := Ideal) X W ix0 = cvSq (importance X W) := by
  unfold val_main_v42 val_main_v41 val_main_v40 val_main_v39 val_main_v38 val_main_v37 val_main_call0_v10 val_main_call0_v9 val_main_call0_v6
    val_main_call0_v5 val_main_call0_v4 val_main_call0_v3 val_main_call0_v2 val_main_call0_v1 val_main_call0_v0 val_main_cst_9 val_main_cst_10 val_main_cst_12
    val_main_call0_cst val_main_call0_cst_0 val_main_call0_cst_2 cvSq mean
  rw [importance_eq X W hs]
  pointwise [freedom0, free0]

/-- The reference's squared coefficient of variation of the load. -/
theorem cv_load : val_main_v48 (F := Ideal) X W ix0 = cvSq (load X W) := by
  unfold val_main_v48 val_main_v47 val_main_v46 val_main_v45 val_main_v44 val_main_v43 val_main_call1_v10 val_main_call1_v9 val_main_call1_v6
    val_main_call1_v5 val_main_call1_v4 val_main_call1_v3 val_main_call1_v2 val_main_call1_v1 val_main_call1_v0 val_main_cst_13 val_main_cst_14 val_main_cst_16
    val_main_call1_cst val_main_call1_cst_0 val_main_call1_cst_2 cvSq mean
  rw [load_eq X W hs]
  pointwise [freedom1, free1]

/-- The reference's loss. -/
theorem loss_eq : val_main_v61 (F := Ideal) X W = fun _ => loss (importance X W) (load X W) (zsum X W) := by
  funext i
  obtain rfl : i = ix0 := funext fun a => a.elim0
  unfold val_main_v61 val_main_v60 val_main_v49 val_main_cst_20 loss
  pointwise [cv_importance X W hs, cv_load X W hs, zsum_eq]

end

end Cert.Proof.RefLoss

end
-- ==== Proof.Precond.lean ====
module

public import proofs.«01_k».proof.Proof.RefLoss
public import proofs.«01_k».proof.Pre_separated

@[expose] public section

set_option maxRecDepth 16384

noncomputable section

/-! What the precondition says of each row of scores. -/

namespace Cert.Proof.Precond

open Idealize.ShloMosaic Cert.Pre_separated Cert.Proof.Row Cert.Proof.KernelArrays Finset

/-- The side conditions of the printed precondition. -/
theorem facts : Cert.Pre_separated.Facts where
  bcast_S8192x64_S8192x64x64_0_1 := by decide
  bcast_S8192x64_S8192x64x64_0_2 := by decide
  reducesTo_S8192x64x64_S8192x64_d2 := by decide
  h_S_ := by decide
  bcast_S_S8192x64 := by decide
  bcast_S_S8192x64x64 := by decide
  dot_S8192x4096_S4096x64_S8192x64_1_0_0_1_n_n_wf := by decide

theorem word8 : Ideal.ofBits .f32 0x41000000#32 = ((8 : ℝ) : EReal) := by
  simp only [Ideal.ofBits, Ideal.ieee]
  simp
  rw [← EReal.coe_mul]
  norm_num

theorem posInf : Ideal.ofBits .f32 0x7F800000#32 = ⊤ := by
  simp [Ideal.ofBits, Ideal.ieee]

/-- A truth value as a number. -/
theorem uitofp_bit (p : Prop) [Decidable p] :
    (FloatOps.uitofp (F := Ideal) .f32 (BitVec.ofBool (decide p)) : EReal) = ((if p then (1 : ℝ) else 0 : ℝ) : EReal) := by
  by_cases h : p <;> simp [h, FloatOps.uitofp]

/-- The number of larger entries, as the precondition counts it. -/
theorem count_eq (l : Fin 64 → EReal) (j : Fin 64) :
    ∑ i, (FloatOps.uitofp (F := Ideal) .f32 (BitVec.ofBool (decide (l j < l i))) : EReal) = ((above l j : ℝ) : EReal) := by
  simp only [uitofp_bit]
  rw [← coe_sum]
  unfold above
  rw [Finset.sum_boole]

/-- A conjunction of truth values holds when both do. -/
theorem andi_one : ∀ a b : BitVec 1, IntOp.andi a b = 1#1 ↔ a = 1#1 ∧ b = 1#1 := by decide

/-- A disjunction of truth values holds when one does. -/
theorem ori_one : ∀ a b : BitVec 1, IntOp.ori a b = 1#1 ↔ a = 1#1 ∨ b = 1#1 := by decide

/-- The truth value of a statement. -/
theorem bit_one (p : Prop) [Decidable p] : BitVec.ofBool (decide p) = 1#1 ↔ p := by
  by_cases h : p <;> simp [h]

/-- Words that compare equal are equal. -/
theorem cmpi_one (a b : BitVec 32) (h : IntOp.cmpi .eq a b = 1#1) : a = b := by
  change BitVec.ofBool (a == b) = 1#1 at h
  by_contra hn
  rw [beq_eq_false_iff_ne.2 hn] at h
  exact absurd h (by decide)

section
attribute [local instance] facts
variable (X : Vec Ideal S8192x4096 .f32) (W U : Vec Ideal S4096x64 .f32)

/-- The precondition at one place. -/
theorem fn_apply (r : Fin 8192) (j k : Fin 64) (h : Cert.Pre_separated.fn (F := Ideal) X W U (ix3 r j k) = 1#1) :
    row X W r j < ⊤ ∧ (j ≠ k → row X W r j ≠ row X W r k ∨ 8 ≤ above (row X W r) j) := by
  have e : ∀ r j, ∑ x, X (ix2 r x) * W (ix2 x j) = row X W r j := fun _ _ => rfl
  revert h
  unfold Cert.Pre_separated.fn
  pointwise
  simp only [e, count_eq (row X W r) j, word8, posInf, andi_one, ori_one, bit_one]
  rintro ⟨h, h'⟩
  refine ⟨h, fun hjk => ?_⟩
  rcases h' with (h' | h') | h'
  · refine absurd (Fin.ext ?_) hjk
    have := congrArg BitVec.toNat (cmpi_one _ _ h')
    rw [BitVec.toNat_ofNat, BitVec.toNat_ofNat] at this
    omega
  · exact Or.inl h'
  · have h8 : (8 : ℝ) ≤ (above (row X W r) j : ℝ) := EReal.coe_le_coe_iff.1 h'
    exact Or.inr (by exact_mod_cast h8)

/-- The precondition gives every row a clear choice of eight. -/
theorem sep (h : Cert.Pre_separated.fn (F := Ideal) X W U = fun _ => 1#1) (r : Fin 8192) : Sep (row X W r) :=
  ⟨fun j => (fn_apply X W U r j j (congrFun h _)).1, fun j k => (fn_apply X W U r j k (congrFun h _)).2⟩

end

end Cert.Proof.Precond

end
-- ==== Proof.lean ====
/- The certificate: the frames of the three programs, the idealization, and the equality of the kernel's four results
   with the reference's over the extended reals. -/
module

public import proofs.«01_k».proof.Defs
public import proofs.«01_k».proof.Proof.Frames
public import proofs.«01_k».proof.Proof.KernelRun
public import proofs.«01_k».proof.Proof.RefLoss
public import proofs.«01_k».proof.Proof.Precond

@[expose] public section

noncomputable section

namespace Cert.Proof

open Idealize.ShloMosaic Idealize.SL.Sem

/-- Both programs, started from the same arguments with a clear choice of eight in every row, end with the same gates,
loss, importance and load. -/
theorem equal_results : Cert.algebraic_KernelIdeal_ReferenceIdeal_pre_separated (hKernelIdeal := Cert.KernelIdeal.Gen.facts)
    (hReferenceIdeal := Cert.ReferenceIdeal.Gen.facts) (hPre_separated := Precond.facts) := by
  intro m g m' g' hpre hargs
  have hs : ∀ c r, Row.Sep (KernelArrays.row (KernelRun.argX m c) (KernelRun.argW m c) r) := fun c => Precond.sep _ _ _ (hpre c)
  refine ⟨_, _, _, _, KernelRun.run m g hs, (θ_run Cert.ReferenceIdeal.defs _ _).mono (fun r h c => ?_) (Cert.ReferenceIdeal.Value.run m' g')⟩
  obtain ⟨h0, h1, h2, h3, ha⟩ := h c
  obtain ⟨e0, e1, -⟩ := hargs c
  refine ⟨h0.trans ?_, h1.trans ?_, h2.trans ?_, h3.trans ?_, ha⟩
  · refine (Cert.ReferenceIdeal.Read.val_main_v31_eq _ _).trans ?_
    rw [e0, e1]
    exact RefGates.gates_eq _ _ (hs c)
  · refine (Cert.ReferenceIdeal.Read.val_main_v61_eq _ _).trans ?_
    rw [e0, e1]
    exact RefLoss.loss_eq _ _ (hs c)
  · refine (Cert.ReferenceIdeal.Read.val_main_v36_eq _ _).trans ?_
    rw [e0, e1]
    exact RefLoss.importance_eq _ _ (hs c)
  · refine (Cert.ReferenceIdeal.Read.val_main_v35_eq _ _).trans ?_
    rw [e0, e1]
    exact RefLoss.load_eq _ _ (hs c)

/-- The certificate's claim. -/
theorem claim : Cert.Claim :=
  ⟨Cert.Kernel.Gen.facts, Cert.KernelIdeal.Gen.facts, Cert.ReferenceIdeal.Gen.facts, Precond.facts,
    frame_kernel, frame_kernelIdeal, fun m ρ _ => frame_kernelIdeal m ρ trivial,
    frame_referenceIdeal, fun m ρ _ => frame_referenceIdeal m ρ trivial, trivial, equal_results⟩

end Cert.Proof

end
